-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1152x3584 : Shape := ⟨3, ![4, 1152, 3584]⟩
abbrev S4x1152x448x2 : Shape := ⟨4, ![4, 1152, 448, 2]⟩
abbrev S2x256x8 : Shape := ⟨3, ![2, 256, 8]⟩
abbrev S4x1152 : Shape := ⟨2, ![4, 1152]⟩
abbrev S3584x64x8 : Shape := ⟨3, ![3584, 64, 8]⟩
abbrev S4608x3584 : Shape := ⟨2, ![4608, 3584]⟩
abbrev S4x2x448x1152 : Shape := ⟨4, ![4, 2, 448, 1152]⟩
abbrev S2x8x256 : Shape := ⟨3, ![2, 8, 256]⟩
abbrev S64x8x3584 : Shape := ⟨3, ![64, 8, 3584]⟩
abbrev S512x3584 : Shape := ⟨2, ![512, 3584]⟩
abbrev S4608x512 : Shape := ⟨2, ![4608, 512]⟩
abbrev S128x896 : Shape := ⟨2, ![128, 896]⟩
abbrev S1x2x448x128 : Shape := ⟨4, ![1, 2, 448, 128]⟩
abbrev S4x128 : Shape := ⟨2, ![4, 128]⟩
abbrev S512x896 : Shape := ⟨2, ![512, 896]⟩
abbrev S128x128 : Shape := ⟨2, ![128, 128]⟩
abbrev S4x896x512 : Shape := ⟨3, ![4, 896, 512]⟩
abbrev S2x4x128x128 : Shape := ⟨4, ![2, 4, 128, 128]⟩
abbrev S4x448x128 : Shape := ⟨3, ![4, 448, 128]⟩
abbrev S2x2x8x128 : Shape := ⟨4, ![2, 2, 8, 128]⟩
abbrev S1x8x256 : Shape := ⟨3, ![1, 8, 256]⟩
abbrev S8x256 : Shape := ⟨2, ![8, 256]⟩
abbrev S8x128 : Shape := ⟨2, ![8, 128]⟩
abbrev S1x1x8x128 : Shape := ⟨4, ![1, 1, 8, 128]⟩
abbrev S896x512 : Shape := ⟨2, ![896, 512]⟩
abbrev S1x896x512 : Shape := ⟨3, ![1, 896, 512]⟩
abbrev S2x448x128 : Shape := ⟨3, ![2, 448, 128]⟩
abbrev S1x448x128 : Shape := ⟨3, ![1, 448, 128]⟩
abbrev S448x128 : Shape := ⟨2, ![448, 128]⟩
abbrev S1x1x128x128 : Shape := ⟨4, ![1, 1, 128, 128]⟩
abbrev S1x128 : Shape := ⟨2, ![1, 128]⟩
abbrev S8x128x1 : Shape := ⟨3, ![8, 128, 1]⟩
abbrev S128x512 : Shape := ⟨2, ![128, 512]⟩

abbrev nBuf : Space → Nat
  | .hbm => 12
  | .vmem => 17
  | .smem => 0
  | _ => 0

abbrev bufTy : (tb : Table) → Fin (tcTables nBuf tb) → BufTy
  | .hbm, ⟨0, _⟩ => ⟨S4x1152x3584, .f32⟩
  | .hbm, ⟨1, _⟩ => ⟨S4x1152x448x2, .i8⟩
  | .hbm, ⟨2, _⟩ => ⟨S2x256x8, .bf16⟩
  | .hbm, ⟨3, _⟩ => ⟨S4x1152, .f32⟩
  | .hbm, ⟨4, _⟩ => ⟨S3584x64x8, .f32⟩
  | .hbm, ⟨5, _⟩ => ⟨S4608x3584, .f32⟩
  | .hbm, ⟨6, _⟩ => ⟨S4x2x448x1152, .i8⟩
  | .hbm, ⟨7, _⟩ => ⟨S2x8x256, .bf16⟩
  | .hbm, ⟨8, _⟩ => ⟨S64x8x3584, .f32⟩
  | .hbm, ⟨9, _⟩ => ⟨S512x3584, .f32⟩
  | .hbm, ⟨10, _⟩ => ⟨S4608x512, .f32⟩
  | .hbm, ⟨11, _⟩ => ⟨S4608x3584, .bf16⟩
  | .local _ .vmem, ⟨0, _⟩ => ⟨S128x896, .f32⟩
  | .local _ .vmem, ⟨1, _⟩ => ⟨S128x896, .f32⟩
  | .local _ .vmem, ⟨2, _⟩ => ⟨S1x2x448x128, .i8⟩
  | .local _ .vmem, ⟨3, _⟩ => ⟨S1x2x448x128, .i8⟩
  | .local _ .vmem, ⟨4, _⟩ => ⟨S2x8x256, .bf16⟩
  | .local _ .vmem, ⟨5, _⟩ => ⟨S4x128, .f32⟩
  | .local _ .vmem, ⟨6, _⟩ => ⟨S4x128, .f32⟩
  | .local _ .vmem, ⟨7, _⟩ => ⟨S512x896, .f32⟩
  | .local _ .vmem, ⟨8, _⟩ => ⟨S512x896, .f32⟩
  | .local _ .vmem, ⟨9, _⟩ => ⟨S128x128, .f32⟩
  | .local _ .vmem, ⟨10, _⟩ => ⟨S128x128, .f32⟩
  | .local _ .vmem, ⟨11, _⟩ => ⟨S128x896, .bf16⟩
  | .local _ .vmem, ⟨12, _⟩ => ⟨S128x896, .bf16⟩
  | .local _ .vmem, ⟨13, _⟩ => ⟨S4x896x512, .bf16⟩
  | .local _ .vmem, ⟨14, _⟩ => ⟨S2x4x128x128, .f32⟩
  | .local _ .vmem, ⟨15, _⟩ => ⟨S4x448x128, .i32⟩
  | .local _ .vmem, ⟨16, _⟩ => ⟨S2x2x8x128, .f32⟩
  | _, _ => ⟨S4x1152x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![37, 4], ![false, false]⟩

def k0_cond2 (i : grid0.Coords) : BitVec 1 :=
  let arg0 : BitVec 32 := BitVec.ofNat 32 (i 0).val
  let c0_i32_6 : BitVec 32 := 0#32
  let v18 : BitVec 1 := Scalar.cmpi .eq arg0 c0_i32_6
  let v19 : BitVec 32 := Scalar.extui v18
  let c0_i32_7 : BitVec 32 := 0#32
  let v20 : BitVec 1 := Scalar.cmpi .ne v19 c0_i32_7
  v20

def k0_off1 (i : grid0.Coords) : Fin 3 → Nat :=
  let arg1 : BitVec 32 := BitVec.ofNat 32 (i 1).val
  let v5526 : Index := Scalar.indexCast arg1
  let c0_2540 : Index := 0#32
  let c0_2541 : Index := 0#32
  ![v5526.toNat, 0, 0]
def k0_off2 (i : grid0.Coords) : Fin 4 → Nat :=
  let c1_i32_24 : BitVec 32 := 1#32
  let arg0 : BitVec 32 := BitVec.ofNat 32 (i 0).val
  let c2_i32 : BitVec 32 := 2#32
  let c0_i32 : BitVec 32 := 0#32
  let v3 : BitVec 1 := Scalar.cmpi .eq c2_i32 c0_i32
  let c1_i32 : BitVec 32 := 1#32
  let v4 : BitVec 32 := Scalar.select v3 c1_i32 c2_i32
  let v5 : BitVec 32 := Scalar.remsi arg0 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let v32 : BitVec 32 := Scalar.subi c1_i32_24 v12
  let v33 : Index := Scalar.indexCast v32
  let arg1 : BitVec 32 := BitVec.ofNat 32 (i 1).val
  let v34 : Index := Scalar.indexCast arg1
  let c0_25 : Index := 0#32
  let c0_26 : Index := 0#32
  ![v33.toNat, v34.toNat, 0, 0]
def k0_off3 (i : grid0.Coords) : Fin 2 → Nat :=
  let arg0 : BitVec 32 := BitVec.ofNat 32 (i 0).val
  let c35_i32 : BitVec 32 := 35#32
  let v0 : BitVec 32 := Scalar.minsi arg0 c35_i32
  let c9_i32 : BitVec 32 := 9#32
  let v38 : BitVec 32 := Scalar.divsi v0 c9_i32
  let v39 : Index := Scalar.indexCast v38
  let c0_29 : Index := 0#32
  ![v39.toNat, 0]
def k0_off4 (i : grid0.Coords) (c0_i32_30 : BitVec 32) (c0_i32_31 : BitVec 32) : Fin 2 → Nat :=
  let arg0 : BitVec 32 := BitVec.ofNat 32 (i 0).val
  let c36_i32 : BitVec 32 := 36#32
  let v1 : BitVec 1 := Scalar.cmpi .slt arg0 c36_i32
  let arg1 : BitVec 32 := BitVec.ofNat 32 (i 1).val
  let c3_i32 : BitVec 32 := 3#32
  let v2 : BitVec 32 := Scalar.select v1 arg1 c3_i32
  let c7_i32 : BitVec 32 := 7#32
  let v43 : BitVec 32 := Scalar.muli v2 c7_i32
  let v44 : BitVec 32 := Scalar.addi v43 c0_i32_30
  let c16_i32 : BitVec 32 := 16#32
  let v45 : BitVec 32 := Scalar.muli v44 c16_i32
  let v46 : BitVec 32 := Scalar.addi v45 c0_i32_31
  let v49 : Index := Scalar.indexCast v46
  let c0_35 : Index := 0#32
  ![v49.toNat, 0]
def k0_off5 (i : grid0.Coords) : Fin 3 → Nat :=
  let arg0 : BitVec 32 := BitVec.ofNat 32 (i 0).val
  let c36_i32 : BitVec 32 := 36#32
  let v1 : BitVec 1 := Scalar.cmpi .slt arg0 c36_i32
  let arg1 : BitVec 32 := BitVec.ofNat 32 (i 1).val
  let c3_i32 : BitVec 32 := 3#32
  let v2 : BitVec 32 := Scalar.select v1 arg1 c3_i32
  let v5470 : Index := Scalar.indexCast v2
  let c0_2506 : Index := 0#32
  let c0_2507 : Index := 0#32
  ![v5470.toNat, 0, 0]
def k0_off6 (i : grid0.Coords) : Fin 4 → Nat :=
  let arg0 : BitVec 32 := BitVec.ofNat 32 (i 0).val
  let c2_i32 : BitVec 32 := 2#32
  let c0_i32 : BitVec 32 := 0#32
  let v3 : BitVec 1 := Scalar.cmpi .eq c2_i32 c0_i32
  let c1_i32 : BitVec 32 := 1#32
  let v4 : BitVec 32 := Scalar.select v3 c1_i32 c2_i32
  let v5 : BitVec 32 := Scalar.remsi arg0 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let v5475 : Index := Scalar.indexCast v12
  let c0_2509 : Index := 0#32
  let c0_2510 : Index := 0#32
  let c0_2511 : Index := 0#32
  ![v5475.toNat, 0, 0, 0]
def k0_off7 (i : grid0.Coords) : Fin 4 → Nat :=
  let arg0 : BitVec 32 := BitVec.ofNat 32 (i 0).val
  let c2_i32 : BitVec 32 := 2#32
  let c0_i32 : BitVec 32 := 0#32
  let v3 : BitVec 1 := Scalar.cmpi .eq c2_i32 c0_i32
  let c1_i32 : BitVec 32 := 1#32
  let v4 : BitVec 32 := Scalar.select v3 c1_i32 c2_i32
  let v5 : BitVec 32 := Scalar.remsi arg0 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let v5487 : Index := Scalar.indexCast v12
  let c1_2517 : Index := 1#32
  let c0_2518 : Index := 0#32
  let c0_2519 : Index := 0#32
  ![v5487.toNat, 1, 0, 0]
def k0_off8 (i : grid0.Coords) : Fin 4 → Nat :=
  let arg0 : BitVec 32 := BitVec.ofNat 32 (i 0).val
  let c2_i32 : BitVec 32 := 2#32
  let c0_i32 : BitVec 32 := 0#32
  let v3 : BitVec 1 := Scalar.cmpi .eq c2_i32 c0_i32
  let c1_i32 : BitVec 32 := 1#32
  let v4 : BitVec 32 := Scalar.select v3 c1_i32 c2_i32
  let v5 : BitVec 32 := Scalar.remsi arg0 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let v5499 : Index := Scalar.indexCast v12
  let c2 : Index := 2#32
  let c0_2525 : Index := 0#32
  let c0_2526 : Index := 0#32
  ![v5499.toNat, 2, 0, 0]
def k0_off9 (i : grid0.Coords) : Fin 4 → Nat :=
  let arg0 : BitVec 32 := BitVec.ofNat 32 (i 0).val
  let c2_i32 : BitVec 32 := 2#32
  let c0_i32 : BitVec 32 := 0#32
  let v3 : BitVec 1 := Scalar.cmpi .eq c2_i32 c0_i32
  let c1_i32 : BitVec 32 := 1#32
  let v4 : BitVec 32 := Scalar.select v3 c1_i32 c2_i32
  let v5 : BitVec 32 := Scalar.remsi arg0 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let v5511 : Index := Scalar.indexCast v12
  let c3 : Index := 3#32
  let c0_2532 : Index := 0#32
  let c0_2533 : Index := 0#32
  ![v5511.toNat, 3, 0, 0]
def cc0_transform_0 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.minsi arg0 c35_i32
  let c35_i32_0 : BitVec 32 := 35#32
  let v1 : BitVec 1 := Scalar.cmpi .sgt arg0 c35_i32_0
  let c3_i32 : BitVec 32 := 3#32
  let v2 : BitVec 32 := Scalar.select v1 c3_i32 arg1
  let c0_i32 : BitVec 32 := 0#32
  ![v0.toNat, v2.toNat]

def cc0_transform_1 (i : grid0.Coords) : Fin 4 → Nat :=
  let arg0 : BitVec 32 := BitVec.ofNat 32 (i 0).val
  let arg1 : BitVec 32 := BitVec.ofNat 32 (i 1).val
  let c35_i32 : BitVec 32 := 35#32
  let v0 : BitVec 32 := Scalar.minsi arg0 c35_i32
  let c9_i32 : BitVec 32 := 9#32
  let v1 : BitVec 32 := Scalar.divsi v0 c9_i32
  let c9_i32_0 : BitVec 32 := 9#32
  let v2 : BitVec 32 := Scalar.remsi v0 c9_i32_0
  let c0_i32 : BitVec 32 := 0#32
  let c0_i32_1 : BitVec 32 := 0#32
  let c0_i32_2 : BitVec 32 := 0#32
  ![v1.toNat, c0_i32.toNat, c0_i32_1.toNat, v2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.minsi arg0 c35_i32
  let c9_i32 : BitVec 32 := 9#32
  let v1 : BitVec 32 := Scalar.divsi v0 c9_i32
  let c9_i32_0 : BitVec 32 := 9#32
  let v2 : BitVec 32 := Scalar.remsi v0 c9_i32_0
  let c0_i32 : BitVec 32 := 0#32
  let c0_i32_1 : BitVec 32 := 0#32
  ![c0_i32.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c3_i32 : BitVec 32 := 3#32
  let v1 : BitVec 32 := Scalar.select v0 c3_i32 arg1
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  ![v1.toNat, v3.toNat]

def cc0_transform_6 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.minsi arg0 c35_i32
  let c35_i32_0 : BitVec 32 := 35#32
  let v1 : BitVec 1 := Scalar.cmpi .sgt arg0 c35_i32_0
  let c3_i32 : BitVec 32 := 3#32
  let v2 : BitVec 32 := Scalar.select v1 c3_i32 arg1
  let c0_i32 : BitVec 32 := 0#32
  ![v0.toNat, v2.toNat]

abbrev stage0_0 : Fin 2 → Memref sig .tc .vmem S128x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x448x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2x8x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x896 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4x1152x3584 : Shape := ⟨3, ![4, 1152, 3584]⟩
abbrev S4x1152x448x2 : Shape := ⟨4, ![4, 1152, 448, 2]⟩
abbrev S2x256x8 : Shape := ⟨3, ![2, 256, 8]⟩
abbrev S4x1152 : Shape := ⟨2, ![4, 1152]⟩
abbrev S3584x64x8 : Shape := ⟨3, ![3584, 64, 8]⟩
abbrev S1x256x8 : Shape := ⟨3, ![1, 256, 8]⟩
abbrev S256x8 : Shape := ⟨2, ![256, 8]⟩
abbrev S256x1x8 : Shape := ⟨3, ![256, 1, 8]⟩
abbrev S256x256x8 : Shape := ⟨3, ![256, 256, 8]⟩
abbrev S65536x8 : Shape := ⟨2, ![65536, 8]⟩
abbrev S4x1152x448x1 : Shape := ⟨4, ![4, 1152, 448, 1]⟩
abbrev S4x1152x448 : Shape := ⟨3, ![4, 1152, 448]⟩
abbrev S_ : Shape := ⟨0, ![]⟩
abbrev S1 : Shape := ⟨1, ![1]⟩
abbrev S1x1x1x1 : Shape := ⟨4, ![1, 1, 1, 1]⟩
abbrev S4x1152x448x8 : Shape := ⟨4, ![4, 1152, 448, 8]⟩
abbrev S4x1152x1x1 : Shape := ⟨4, ![4, 1152, 1, 1]⟩
abbrev S4x1152x64x8 : Shape := ⟨4, ![4, 1152, 64, 8]⟩
abbrev S4608x512 : Shape := ⟨2, ![4608, 512]⟩
abbrev S4608x3584 : Shape := ⟨2, ![4608, 3584]⟩

abbrev nBuf : Space → Nat
  | .hbm => 58
  | .vmem => 0
  | .smem => 0
  | _ => 0

abbrev bufTy : (tb : Table) → Fin (tcTables nBuf tb) → BufTy
  | .hbm, ⟨0, _⟩ => ⟨S4x1152x3584, .f32⟩
  | .hbm, ⟨1, _⟩ => ⟨S4x1152x448x2, .i8⟩
  | .hbm, ⟨2, _⟩ => ⟨S2x256x8, .bf16⟩
  | .hbm, ⟨3, _⟩ => ⟨S4x1152, .f32⟩
  | .hbm, ⟨4, _⟩ => ⟨S3584x64x8, .f32⟩
  | .hbm, ⟨5, _⟩ => ⟨S2x256x8, .f32⟩
  | .hbm, ⟨6, _⟩ => ⟨S1x256x8, .f32⟩
  | .hbm, ⟨7, _⟩ => ⟨S256x8, .f32⟩
  | .hbm, ⟨8, _⟩ => ⟨S256x1x8, .f32⟩
  | .hbm, ⟨9, _⟩ => ⟨S1x256x8, .f32⟩
  | .hbm, ⟨10, _⟩ => ⟨S256x8, .f32⟩
  | .hbm, ⟨11, _⟩ => ⟨S1x256x8, .f32⟩
  | .hbm, ⟨12, _⟩ => ⟨S256x256x8, .f32⟩
  | .hbm, ⟨13, _⟩ => ⟨S256x256x8, .f32⟩
  | .hbm, ⟨14, _⟩ => ⟨S256x256x8, .f32⟩
  | .hbm, ⟨15, _⟩ => ⟨S65536x8, .f32⟩
  | .hbm, ⟨16, _⟩ => ⟨S4x1152x448x2, .i32⟩
  | .hbm, ⟨17, _⟩ => ⟨S4x1152x448x1, .i32⟩
  | .hbm, ⟨18, _⟩ => ⟨S4x1152x448, .i32⟩
  | .hbm, ⟨19, _⟩ => ⟨S_, .i32⟩
  | .hbm, ⟨20, _⟩ => ⟨S4x1152x448, .i32⟩
  | .hbm, ⟨21, _⟩ => ⟨S4x1152x448, .i32⟩
  | .hbm, ⟨22, _⟩ => ⟨S4x1152x448x1, .i32⟩
  | .hbm, ⟨23, _⟩ => ⟨S4x1152x448, .i32⟩
  | .hbm, ⟨24, _⟩ => ⟨S4x1152x448, .i32⟩
  | .hbm, ⟨25, _⟩ => ⟨S_, .i32⟩
  | .hbm, ⟨26, _⟩ => ⟨S4x1152x448, .i32⟩
  | .hbm, ⟨27, _⟩ => ⟨S4x1152x448, .i1⟩
  | .hbm, ⟨28, _⟩ => ⟨S_, .i32⟩
  | .hbm, ⟨29, _⟩ => ⟨S4x1152x448, .i32⟩
  | .hbm, ⟨30, _⟩ => ⟨S4x1152x448, .i32⟩
  | .hbm, ⟨31, _⟩ => ⟨S4x1152x448, .i32⟩
  | .hbm, ⟨32, _⟩ => ⟨S4x1152x448x1, .i32⟩
  | .hbm, ⟨33, _⟩ => ⟨S1, .i32⟩
  | .hbm, ⟨34, _⟩ => ⟨S_, .i32⟩
  | .hbm, ⟨35, _⟩ => ⟨S4x1152x448x1, .i32⟩
  | .hbm, ⟨36, _⟩ => ⟨S4x1152x448x1, .i1⟩
  | .hbm, ⟨37, _⟩ => ⟨S1x1x1x1, .i32⟩
  | .hbm, ⟨38, _⟩ => ⟨S4x1152x448x1, .i32⟩
  | .hbm, ⟨39, _⟩ => ⟨S4x1152x448x1, .i1⟩
  | .hbm, ⟨40, _⟩ => ⟨S4x1152x448x1, .i1⟩
  | .hbm, ⟨41, _⟩ => ⟨S_, .i1⟩
  | .hbm, ⟨42, _⟩ => ⟨S4x1152x448, .i1⟩
  | .hbm, ⟨43, _⟩ => ⟨S4x1152x448x8, .f32⟩
  | .hbm, ⟨44, _⟩ => ⟨S4x1152x448x8, .i1⟩
  | .hbm, ⟨45, _⟩ => ⟨S_, .f32⟩
  | .hbm, ⟨46, _⟩ => ⟨S4x1152x448x8, .f32⟩
  | .hbm, ⟨47, _⟩ => ⟨S4x1152x448x8, .f32⟩
  | .hbm, ⟨48, _⟩ => ⟨S4x1152x1x1, .f32⟩
  | .hbm, ⟨49, _⟩ => ⟨S4x1152x448x8, .f32⟩
  | .hbm, ⟨50, _⟩ => ⟨S4x1152x448x8, .f32⟩
  | .hbm, ⟨51, _⟩ => ⟨S4x1152x3584, .f32⟩
  | .hbm, ⟨52, _⟩ => ⟨S4x1152x3584, .f32⟩
  | .hbm, ⟨53, _⟩ => ⟨S4x1152x3584, .bf16⟩
  | .hbm, ⟨54, _⟩ => ⟨S3584x64x8, .bf16⟩
  | .hbm, ⟨55, _⟩ => ⟨S4x1152x64x8, .f32⟩
  | .hbm, ⟨56, _⟩ => ⟨S4608x512, .f32⟩
  | .hbm, ⟨57, _⟩ => ⟨S4608x3584, .bf16⟩
  | _, _ => ⟨S4x1152x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩

abbrev nD : Nat := 1
abbrev τ : Topo := Topo.v7x

variable {F : FTy → Type} [FloatOps F]
-- ==== Proof.Words.lean ====
module

public import proofs.«01_k».proof.Proof.Gen.KernelIdeal.Skeleton
public import Idealize.ShloMosaic.Lib.Tactic
public import Idealize.ShloMosaic.Lib.Pipeline.Kit
public import Idealize.ShloMosaic.Lib.Pointwise

@[expose] public section

noncomputable section

namespace Cert.KernelIdeal.Hand

open Cert.KernelIdeal Cert.KernelIdeal.Gen
open Idealize.ShloMosaic
open Idealize.ShloMosaic.TcCoe Idealize.ShloMosaic.Tactic
open Idealize.ShloMosaic.Pointwise

variable {F : FTy → Type} [FloatOps F]

/-! ## The offsets and the conditions the kernel computes, in closed form -/

/-- Where the rounded activations of a first-tile point go: their own column block. -/
theorem off1_eq : ∀ i : grid0.Coords, k0_off1 i = ![(i 1).val, 0, 0] := by decide +kernel
/-- Where a point reads the finished sums: the other slot, its own column block. -/
theorem off2_eq : ∀ i : grid0.Coords, k0_off2 i = ![1 - (i 0).val % 2, (i 1).val, 0, 0] := by decide +kernel
/-- Where a point reads the scales: the row of its tile's batch. -/
theorem off3_eq : ∀ i : grid0.Coords, k0_off3 i = ![(min (i 0).val 35) / 9, 0] := by decide +kernel
/-- The index row of a group: 112 groups per column block, 16 per piece. -/
theorem off4_eq : ∀ i : grid0.Coords, ∀ (c : Fin 7) (t : Fin 16), k0_off4 i (BitVec.ofNat 32 c.val) (BitVec.ofNat 32 t.val)
    = ![112 * (if (i 0).val < 36 then (i 1).val else 3) + 16 * c.val + t.val, 0] := by decide +kernel
/-- Where a point reads the rounded activations: the column block it works on. -/
theorem off5_eq : ∀ i : grid0.Coords, k0_off5 i = ![if (i 0).val < 36 then (i 1).val else 3, 0, 0] := by decide +kernel
/-- The first stored column block of the running sum, in the tile's slot. -/
theorem off6_eq : ∀ i : grid0.Coords, k0_off6 i = ![(i 0).val % 2, 0, 0, 0] := by decide +kernel
/-- The second stored column block of the running sum, in the tile's slot. -/
theorem off7_eq : ∀ i : grid0.Coords, k0_off7 i = ![(i 0).val % 2, 1, 0, 0] := by decide +kernel
/-- The third stored column block of the running sum, in the tile's slot. -/
theorem off8_eq : ∀ i : grid0.Coords, k0_off8 i = ![(i 0).val % 2, 2, 0, 0] := by decide +kernel
/-- The fourth stored column block of the running sum, in the tile's slot. -/
theorem off9_eq : ∀ i : grid0.Coords, k0_off9 i = ![(i 0).val % 2, 3, 0, 0] := by decide +kernel

/-- The word of the first conditional: the first grid point. -/
abbrev cond1 (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32
/-- The word of the third conditional: the first column block of a tile. -/
abbrev cond3 (i : grid0.Coords) : BitVec 1 :=
  Scalar.cmpi .ne (Scalar.extui (Scalar.cmpi .eq (BitVec.ofNat 32 (i 1).val) 0#32) : BitVec 32) 0#32

/-- The first conditional runs at the first grid point only. -/
theorem cond1_iff : ∀ i : grid0.Coords, cond1 i = 1#1 ↔ (i 0).val = 0 ∧ (i 1).val = 0 := by decide +kernel
/-- The second conditional runs at the points of the first tile only. -/
theorem cond2_iff : ∀ i : grid0.Coords, k0_cond2 i = 1#1 ↔ (i 0).val = 0 := by decide +kernel
/-- The third conditional runs at the first column block of each tile only. -/
theorem cond3_iff : ∀ i : grid0.Coords, cond3 i = 1#1 ↔ (i 1).val = 0 := by decide +kernel
/-- The word that selects zero instead of the running sum. -/
theorem first_iff : ∀ i : grid0.Coords, Scalar.cmpi .eq (BitVec.ofNat 32 (i 1).val) 0#32 = 1#1 ↔ (i 1).val = 0 := by decide +kernel

/-- Closed forms of the offsets the run meets. -/
instance (i : grid0.Coords) : ClosedOff (k0_off2 i) := ⟨_, off2_eq i⟩
instance (i : grid0.Coords) : ClosedOff (k0_off5 i) := ⟨_, off5_eq i⟩
instance (i : grid0.Coords) : ClosedOff (k0_off6 i) := ⟨_, off6_eq i⟩
instance (i : grid0.Coords) : ClosedOff (k0_off7 i) := ⟨_, off7_eq i⟩
instance (i : grid0.Coords) : ClosedOff (k0_off8 i) := ⟨_, off8_eq i⟩
instance (i : grid0.Coords) : ClosedOff (k0_off9 i) := ⟨_, off9_eq i⟩

/-! ## What one grid point does, on values

`x3`, `x4`, `x6` … are the blocks the body reads, `x9` … `x12` the scratch contents it finds. -/

/-- The column block a point works on. -/
abbrev stepOf (i : grid0.Coords) : Fin 4 := if h : (i 0).val < 36 then ⟨(i 1).val, (i 1).isLt⟩ else 3
/-- The batch of the tile a point works on. -/
abbrev batchOf (i : grid0.Coords) : Fin 4 := ⟨min (i 0).val 35 / 9, by omega⟩
/-- The slot of the running sum. -/
abbrev slotOf (i : grid0.Coords) : Fin 2 := ⟨(i 0).val % 2, by omega⟩
/-- The column block the first pass stores and the output block number. -/
abbrev colOf (i : grid0.Coords) : Fin 4 := ⟨(i 1).val, (i 1).isLt⟩

/-- The two halves of each codebook, widened. -/
def mkTab (x4 : Vec F S2x8x256 .bf16) : Vec F S2x2x8x128 .f32 := fun j =>
  FloatOps.extf .f32 bitsLt_bf16_f32 (x4 (ix3 (j 0) (j 2) ⟨128 * (j 1).val + (j 3).val, by have := (j 1).isLt; have := (j 3).isLt; simp at *; omega⟩))
/-- A code as a 32-bit word. -/
def codeW (x3 : Vec F S1x2x448x128 .i8) (m : Fin 2) (g : Fin 448) (l : Fin 128) : BitVec 32 := (show BitVec 8 from x3 (ix4 0 m g l)).setWidth 32
/-- The prepared index rows: per codebook the lane in the half and the word that tells the half. -/
def mkIdx (x3 : Vec F S1x2x448x128 .i8) : Vec F S4x448x128 .i32 := fun j =>
  if (j 0).val % 2 = 0 then codeW (F := F) x3 ⟨(j 0).val / 2, by have := (j 0).isLt; simp at *; omega⟩ (j 1) (j 2) &&& 127#32
  else 16#32 - (IntOp.shrsi .vector (codeW (F := F) x3 ⟨(j 0).val / 2, by have := (j 0).isLt; simp at *; omega⟩ (j 1) (j 2)) 3#32 &&& 16#32)
/-- One column block of `h`, transposed and rounded. -/
def mkH (x6 : Vec F S512x896 .f32) (d : Fin 896) (n : Fin 512) : F .bf16 := FloatOps.truncf .bf16 bitsLt_bf16_f32 (x6 (ix2 n d))

/-- The zero the running sums start from. -/
def zro : F .f32 := Scalar.ofBits .f32 0x00000000#32

/-- The codebook tables after the point's preparation. -/
def nTab (i : grid0.Coords) (x4 : Vec F S2x8x256 .bf16) (x12 : Vec F S2x2x8x128 .f32) : Vec F S2x2x8x128 .f32 :=
  if (i 0).val = 0 ∧ (i 1).val = 0 then mkTab x4 else x12
/-- The running sums after the point's preparation. -/
def nSum (i : grid0.Coords) (x10 : Vec F S2x4x128x128 .f32) : Vec F S2x4x128x128 .f32 :=
  if (i 0).val = 0 ∧ (i 1).val = 0 then fun _ => zro else x10
/-- The rounded `h` after the point's preparation. -/
def nH (i : grid0.Coords) (x6 : Vec F S512x896 .f32) (x9 : Vec F S4x896x512 .bf16) : Vec F S4x896x512 .bf16 := fun j =>
  if (i 0).val = 0 ∧ (j 0).val = (i 1).val then mkH x6 (j 1) (j 2) else x9 j
/-- The index rows after the point's preparation. -/
def nIdx (i : grid0.Coords) (x3 : Vec F S1x2x448x128 .i8) (x11 : Vec F S4x448x128 .i32) : Vec F S4x448x128 .i32 :=
  if (i 1).val = 0 then mkIdx x3 else x11

/-- One codebook's entry for one row and one column of the tile. -/
def dec (x11 : Vec F S4x448x128 .i32) (x12 : Vec F S2x2x8x128 .f32) (m : Fin 2) (g : Fin 448) (e : Fin 8) (o : Fin 128) : F .f32 :=
  Scalar.select (IntOp.cmpi .eq (x11 (ix3 ⟨2 * m.val + 1, by omega⟩ g o)) 16#32)
    (x12 (ix4 m 0 e ⟨(show BitVec 32 from x11 (ix3 ⟨2 * m.val, by omega⟩ g o)).toNat % 128, Nat.mod_lt _ (by norm_num)⟩))
    (x12 (ix4 m 1 e ⟨(show BitVec 32 from x11 (ix3 ⟨2 * m.val, by omega⟩ g o)).toNat % 128, Nat.mod_lt _ (by norm_num)⟩))
/-- Scale times the sum of both codebooks' entries. -/
def dq (s : F .f32) (x11 : Vec F S4x448x128 .i32) (x12 : Vec F S2x2x8x128 .f32) (g : Fin 448) (e : Fin 8) (o : Fin 128) : F .f32 :=
  FloatOps.mulf s (FloatOps.addf (dec (F := F) x11 x12 0 g e o) (dec (F := F) x11 x12 1 g e o))
/-- The rounded remainder at one place of the block. -/
def rv (i : grid0.Coords) (x2 : Vec F S128x896 .f32) (x5 : Vec F S4x128 .f32) (x11 : Vec F S4x448x128 .i32) (x12 : Vec F S2x2x8x128 .f32) : Vec F S128x896 .bf16 := fun j =>
  FloatOps.truncf .bf16 bitsLt_bf16_f32 (FloatOps.subf (x2 j)
    (dq (x5 (ix2 (batchOf i) (j 0))) x11 x12
      ⟨112 * (stepOf i).val + (j 1).val / 8, by have := (stepOf i).isLt; have := (j 1).isLt; simp at *; omega⟩
      ⟨(j 1).val % 8, by omega⟩ (j 0)))
/-- One column block of the rounded `h` as a matrix. -/
def hMat (x9 : Vec F S4x896x512 .bf16) (k : Fin 4) : Vec F S896x512 .bf16 := fun j => x9 (ix3 k (j 0) (j 1))
/-- The product of the rounded remainder with a column block of `h`. -/
def dot (r : Vec F S128x896 .bf16) (h : Vec F S896x512 .bf16) : Vec F S128x512 .f32 :=
  matmul dot_S128x896_S896x512_S128x512_1_0_0_1_n_n none r h (constant S128x512 .f32 0x00000000#32)
/-- What the point leaves in the output block of the products. -/
def oP (i : grid0.Coords) (x10 : Vec F S2x4x128x128 .f32) : Vec F S128x128 .f32 := fun j =>
  x10 (ix4 ⟨1 - (i 0).val % 2, by omega⟩ (colOf i) (j 0) (j 1))
/-- The running sums after the point. -/
def oSum (i : grid0.Coords) (x10 : Vec F S2x4x128x128 .f32) (d : Vec F S128x512 .f32) : Vec F S2x4x128x128 .f32 := fun j =>
  if (j 0).val = (i 0).val % 2 then
    FloatOps.addf (if (i 1).val = 0 then zro else x10 j) (d (ix2 (j 2) ⟨128 * (j 1).val + (j 3).val, by have := (j 1).isLt; have := (j 3).isLt; simp at *; omega⟩))
  else x10 j

end Cert.KernelIdeal.Hand
end
-- ==== Proof.Prep.lean ====
module

public import proofs.«01_k».proof.Proof.Words

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise

variable {F : FTy → Type} [FloatOps F]

local notation "𝕄" => MT nD τ sig Unit (Elt F) ℕ (UR sig nD τ) ℕ

/-- The contents of the buffer behind a memref. -/
abbrev Bf (c : Dev nD) {sp : Space} {S : Shape} {e : EltTy} (M : Memref sig .tc sp S e) : Type := Buf (Elt F) (M.view.loc (c : Thread nD τ))
/-- Full ownership of the buffer behind a memref. -/
abbrev pt (c : Dev nD) {sp : Space} {S : Shape} {e : EltTy} (M : Memref sig .tc sp S e) (f : Bf (F := F) c M) : sProp 𝕄 :=
  M.view.loc (c : Thread nD τ) ↦{fullShare} f

/-! ## The payloads of the preparation, at an index -/

/-- The stored lower half of the first codebook, at an index. -/
theorem pay10_at (x : Vec F S1x8x256 .bf16) (a b : Fin 1) (e : Fin 8) (l : Fin 128) :
    k0_pay10 x (ix4 a b e l) = FloatOps.extf .f32 bitsLt_bf16_f32 (x (ix3 0 e ⟨l.val, by omega⟩)) := by
  pointwise [k0_pay10, k0_pay9]
/-- The stored upper half of the first codebook, at an index. -/
theorem pay11_at (x : Vec F S1x8x256 .bf16) (a b : Fin 1) (e : Fin 8) (l : Fin 128) :
    k0_pay11 x (ix4 a b e l) = FloatOps.extf .f32 bitsLt_bf16_f32 (x (ix3 0 e ⟨128 + l.val, by omega⟩)) := by
  pointwise [k0_pay11, k0_pay9]
/-- The stored lower half of the second codebook, at an index. -/
theorem pay13_at (x : Vec F S1x8x256 .bf16) (a b : Fin 1) (e : Fin 8) (l : Fin 128) :
    k0_pay13 x (ix4 a b e l) = FloatOps.extf .f32 bitsLt_bf16_f32 (x (ix3 0 e ⟨l.val, by omega⟩)) := by
  pointwise [k0_pay13, k0_pay12]
/-- The stored upper half of the second codebook, at an index. -/
theorem pay14_at (x : Vec F S1x8x256 .bf16) (a b : Fin 1) (e : Fin 8) (l : Fin 128) :
    k0_pay14 x (ix4 a b e l) = FloatOps.extf .f32 bitsLt_bf16_f32 (x (ix3 0 e ⟨128 + l.val, by omega⟩)) := by
  pointwise [k0_pay14, k0_pay12]
/-- The running sums are cleared to zero. -/
theorem pay15_at (j) : k0_pay15 (F := F) j = zro := by
  pointwise [k0_pay15]
  rfl
/-- The stored activations, transposed and rounded, at an index. -/
theorem pay16_at (x : Vec F S512x896 .f32) (a : Fin 1) (d : Fin 896) (n : Fin 512) :
    k0_pay16 x (ix3 a d n) = mkH x d n := by
  pointwise [k0_pay16, mkH]
/-- The lanes of the first code, at an index. -/
theorem pay4_at (x : Vec F S1x2x448x128 .i8) (a : Fin 1) (g : Fin 448) (l : Fin 128) :
    k0_pay4 x (ix3 a g l) = codeW (F := F) x 0 g l &&& 127#32 := by
  pointwise [k0_pay4, k0_pay3, k0_pay2, codeW]
  rfl
/-- The words that tell the half of the first code, at an index. -/
theorem pay5_at (x : Vec F S1x2x448x128 .i8) (a : Fin 1) (g : Fin 448) (l : Fin 128) :
    k0_pay5 x (ix3 a g l) = 16#32 - (IntOp.shrsi .vector (codeW (F := F) x 0 g l) 3#32 &&& 16#32) := by
  pointwise [k0_pay5, k0_pay3, k0_pay2, codeW]
  rfl
/-- The lanes of the second code, at an index. -/
theorem pay7_at (x : Vec F S1x2x448x128 .i8) (a : Fin 1) (g : Fin 448) (l : Fin 128) :
    k0_pay7 x (ix3 a g l) = codeW (F := F) x 1 g l &&& 127#32 := by
  pointwise [k0_pay7, k0_pay6, k0_pay2, codeW]
  rfl
/-- The words that tell the half of the second code, at an index. -/
theorem pay17_at (x : Vec F S1x2x448x128 .i8) (a : Fin 1) (g : Fin 448) (l : Fin 128) :
    k0_pay17 (k0_pay8 x) (ix3 a g l) = 16#32 - (IntOp.shrsi .vector (codeW (F := F) x 1 g l) 3#32 &&& 16#32) := by
  pointwise [k0_pay17, k0_pay8, k0_pay6, k0_pay2, codeW]
  rfl

/-- An even index row holds the lanes of its code. -/
theorem mkIdx_even (x : Vec F S1x2x448x128 .i8) (k : Fin 4) (g : Fin 448) (l : Fin 128) (m : Fin 2) (h : k.val % 2 = 0) (hm : m.val = k.val / 2) :
    mkIdx x (ix3 k g l) = codeW (F := F) x m g l &&& 127#32 := by
  obtain ⟨m, hm'⟩ := m
  subst hm
  unfold mkIdx
  exact if_pos h
/-- An odd index row holds the words that tell the half of its code. -/
theorem mkIdx_odd (x : Vec F S1x2x448x128 .i8) (k : Fin 4) (g : Fin 448) (l : Fin 128) (m : Fin 2) (h : k.val % 2 = 1) (hm : m.val = k.val / 2) :
    mkIdx x (ix3 k g l) = 16#32 - (IntOp.shrsi .vector (codeW (F := F) x m g l) 3#32 &&& 16#32) := by
  obtain ⟨m, hm'⟩ := m
  subst hm
  unfold mkIdx
  exact if_neg (fun h0 : k.val % 2 = 0 => by omega)

/-! ## What the preparation's stores leave, read back -/

section Reads
variable (c : Dev nD)

/-- The four stores of the codebook halves. -/
abbrev tabPieces (M4 : Memref sig .tc .vmem S2x8x256 .bf16) (f4 : Bf (F := F) c M4) : List (View.Piece (Elt F) S2x2x8x128 .f32) :=
      [⟨Rect.unit (s := S2x2x8x128) ![1, 1, 0, 0] S1x1x8x128.size inb_S2x2x8x128_S1x1x8x128_1_1_0_0, k0_pay14 (View.readAt (Elt F) M4.view (Rect.unit (s := S2x8x256) ![1, 0, 0] S1x8x256.size inb_S2x8x256_S1x8x256_1_0_0).toLoadRect f4)⟩,
       ⟨Rect.unit (s := S2x2x8x128) ![1, 0, 0, 0] S1x1x8x128.size inb_S2x2x8x128_S1x1x8x128_1_0_0_0, k0_pay13 (View.readAt (Elt F) M4.view (Rect.unit (s := S2x8x256) ![1, 0, 0] S1x8x256.size inb_S2x8x256_S1x8x256_1_0_0).toLoadRect f4)⟩,
       ⟨Rect.unit (s := S2x2x8x128) ![0, 1, 0, 0] S1x1x8x128.size inb_S2x2x8x128_S1x1x8x128_0_1_0_0, k0_pay11 (View.readAt (Elt F) M4.view (Rect.unit (s := S2x8x256) ![0, 0, 0] S1x8x256.size inb_S2x8x256_S1x8x256_0_0_0).toLoadRect f4)⟩,
       ⟨Rect.unit (s := S2x2x8x128) ![0, 0, 0, 0] S1x1x8x128.size inb_S2x2x8x128_S1x1x8x128_0_0_0_0, k0_pay10 (View.readAt (Elt F) M4.view (Rect.unit (s := S2x8x256) ![0, 0, 0] S1x8x256.size inb_S2x8x256_S1x8x256_0_0_0).toLoadRect f4)⟩]

/-- The table buffer after the four halves are stored reads as the tables. -/
theorem read_tab (M4 : Memref sig .tc .vmem S2x8x256 .bf16) (M12 : Memref sig .tc .vmem S2x2x8x128 .f32) (f4 : Bf (F := F) c M4) (f12 : Bf (F := F) c M12) :
    M12.view.read (Elt F) (M12.view.writes (Elt F) f12
      (tabPieces c M4 f4))
    = mkTab (M4.view.read (Elt F) f4) := by
  funext y
  refine View.read_writes_apply_of_pieces _ _ (mkTab (M4.view.read (Elt F) f4)) _ ?_ y ?_
  swap
  · exact View.cover_of_tiled (s := S2x2x8x128) _ S1x1x8x128.size (by sl_kernel_rfl) y
  intro p hp
  simp only [List.mem_cons, List.not_mem_nil, _root_.or_false] at hp
  rcases hp with rfl | rfl | rfl | rfl <;> intro x <;>
    obtain ⟨a, b, e, l, rfl⟩ : ∃ (a b : Fin 1) (e : Fin 8) (l : Fin 128), x = ix4 a b e l := ⟨x 0, x 1, x 2, x 3, eq_ix4 x⟩
  · refine (pay14_at _ a b e l).trans ?_
    unfold mkTab
    rw [View.readAt_apply]
    refine congrArg _ (congrArg _ (funext fun d => Fin.ext ?_))
    fin_cases d <;> simp [Rect.emb_apply, LoadRect.idx_apply, ix3, ix4]
  · refine (pay13_at _ a b e l).trans ?_
    unfold mkTab
    rw [View.readAt_apply]
    refine congrArg _ (congrArg _ (funext fun d => Fin.ext ?_))
    fin_cases d <;> simp [Rect.emb_apply, LoadRect.idx_apply, ix3, ix4]
  · refine (pay11_at _ a b e l).trans ?_
    unfold mkTab
    rw [View.readAt_apply]
    refine congrArg _ (congrArg _ (funext fun d => Fin.ext ?_))
    fin_cases d <;> simp [Rect.emb_apply, LoadRect.idx_apply, ix3, ix4]
  · refine (pay10_at _ a b e l).trans ?_
    unfold mkTab
    rw [View.readAt_apply]
    refine congrArg _ (congrArg _ (funext fun d => Fin.ext ?_))
    fin_cases d <;> simp [Rect.emb_apply, LoadRect.idx_apply, ix3, ix4]

/-- The buffer of the running sums after it is cleared reads as zero. -/
theorem read_sum (M10 : Memref sig .tc .vmem S2x4x128x128 .f32) (f10 : Bf (F := F) c M10) :
    M10.view.read (Elt F) (M10.view.writes (Elt F) f10 [⟨Rect.unit (s := S2x4x128x128) ![0, 0, 0, 0] S2x4x128x128.size inb_S2x4x128x128_S2x4x128x128_0_0_0_0, k0_pay15⟩])
    = fun _ => zro := by
  funext y
  refine View.read_writes_apply_of_pieces (Val := Elt F) (e := .f32) _ _ (fun _ => (zro : F .f32)) _ ?_ y ?_
  swap
  · exact View.cover_of_tiled (s := S2x4x128x128) _ S2x4x128x128.size (by sl_kernel_rfl) y
  intro p hp
  simp only [List.mem_cons, List.not_mem_nil, _root_.or_false] at hp
  subst hp
  exact fun x => pay15_at x

/-- The load of the whole activation block reads the block. -/
theorem read_whole6 (M6 : Memref sig .tc .vmem S512x896 .f32) (f6 : Bf (F := F) c M6) :
    View.readAt (Elt F) M6.view (Rect.unit (s := S512x896) ![0, 0] S512x896.size inb_S512x896_S512x896_0_0).toLoadRect f6 = M6.view.read (Elt F) f6 := by
  funext x
  rw [View.readAt_apply]
  refine congrArg _ (funext fun d => Fin.ext ?_)
  fin_cases d <;> simp [LoadRect.idx_apply]

/-- The load of the whole code block reads the block. -/
theorem read_whole3 (M3 : Memref sig .tc .vmem S1x2x448x128 .i8) (f3 : Bf (F := F) c M3) :
    View.readAt (Elt F) M3.view (Rect.unit (s := S1x2x448x128) ![0, 0, 0, 0] S1x2x448x128.size inb_S1x2x448x128_S1x2x448x128_0_0_0_0).toLoadRect f3 = M3.view.read (Elt F) f3 := by
  funext x
  rw [View.readAt_apply]
  refine congrArg _ (funext fun d => Fin.ext ?_)
  fin_cases d <;> simp [LoadRect.idx_apply]

/-- The buffer of the rounded activations after one column block is stored: that block is new, the others are as before. -/
theorem read_h (i : grid0.Coords) (hc2 : (i 0).val = 0) (inb) (M6 : Memref sig .tc .vmem S512x896 .f32) (M9 : Memref sig .tc .vmem S4x896x512 .bf16)
    (f6 : Bf (F := F) c M6) (f9 : Bf (F := F) c M9) :
    M9.view.read (Elt F) (M9.view.writes (Elt F) f9
      [⟨Rect.unit (s := S4x896x512) (k0_off1 i) S1x896x512.size inb, k0_pay16 (View.readAt (Elt F) M6.view (Rect.unit (s := S512x896) ![0, 0] S512x896.size inb_S512x896_S512x896_0_0).toLoadRect f6)⟩])
    = nH i (M6.view.read (Elt F) f6) (M9.view.read (Elt F) f9) := by
  funext y
  rw [read_whole6]
  unfold nH
  by_cases h : (y 0).val = (i 1).val
  · rw [if_pos ⟨hc2, h⟩]
    refine (View.read_writes_cons_hit_of_coords _ _ _ _ _ (ix3 0 (y 1) (y 2)) y ?_).trans (pay16_at _ _ _ _)
    intro d
    have e : (Rect.unit (s := S4x896x512) (k0_off1 i) S1x896x512.size inb).off = ![(i 1).val, 0, 0] := off1_eq i
    rw [e]
    fin_cases d <;> simp [Rect.unit, ix3, h]
  · rw [if_neg (fun hh => h hh.2)]
    refine (View.read_writes_cons_miss_of_axis _ _ _ _ y 0 (i 1).val 1 ?_ rfl rfl ?_)
    · show k0_off1 i 0 = _
      rw [off1_eq]; rfl
    · omega

/-- The index buffer after its four rows are stored reads as the prepared index rows. -/
theorem read_idx (M3 : Memref sig .tc .vmem S1x2x448x128 .i8) (M11 : Memref sig .tc .vmem S4x448x128 .i32) (f3 : Bf (F := F) c M3) (f11 : Bf (F := F) c M11) :
    M11.view.read (Elt F) (M11.view.writes (Elt F) f11
      [⟨Rect.unit (s := S4x448x128) ![3, 0, 0] S1x448x128.size inb_S4x448x128_S1x448x128_3_0_0, k0_pay17 (k0_pay8 (View.readAt (Elt F) M3.view (Rect.unit (s := S1x2x448x128) ![0, 0, 0, 0] S1x2x448x128.size inb_S1x2x448x128_S1x2x448x128_0_0_0_0).toLoadRect f3))⟩,
       ⟨Rect.unit (s := S4x448x128) ![2, 0, 0] S1x448x128.size inb_S4x448x128_S1x448x128_2_0_0, k0_pay7 (View.readAt (Elt F) M3.view (Rect.unit (s := S1x2x448x128) ![0, 0, 0, 0] S1x2x448x128.size inb_S1x2x448x128_S1x2x448x128_0_0_0_0).toLoadRect f3)⟩,
       ⟨Rect.unit (s := S4x448x128) ![1, 0, 0] S1x448x128.size inb_S4x448x128_S1x448x128_1_0_0, k0_pay5 (View.readAt (Elt F) M3.view (Rect.unit (s := S1x2x448x128) ![0, 0, 0, 0] S1x2x448x128.size inb_S1x2x448x128_S1x2x448x128_0_0_0_0).toLoadRect f3)⟩,
       ⟨Rect.unit (s := S4x448x128) ![0, 0, 0] S1x448x128.size inb_S4x448x128_S1x448x128_0_0_0, k0_pay4 (View.readAt (Elt F) M3.view (Rect.unit (s := S1x2x448x128) ![0, 0, 0, 0] S1x2x448x128.size inb_S1x2x448x128_S1x2x448x128_0_0_0_0).toLoadRect f3)⟩])
    = mkIdx (M3.view.read (Elt F) f3) := by
  funext y
  rw [read_whole3]
  refine View.read_writes_apply_of_pieces _ _ (mkIdx (M3.view.read (Elt F) f3)) _ ?_ y ?_
  swap
  · exact View.cover_of_tiled (s := S4x448x128) _ S1x448x128.size (by sl_kernel_rfl) y
  intro p hp
  simp only [List.mem_cons, List.not_mem_nil, _root_.or_false] at hp
  rcases hp with rfl | rfl | rfl | rfl <;> intro x <;>
    obtain ⟨a, g, l, rfl⟩ : ∃ (a : Fin 1) (g : Fin 448) (l : Fin 128), x = ix3 a g l := ⟨x 0, x 1, x 2, eq_ix3 x⟩ <;>
    obtain rfl : a = 0 := Subsingleton.elim _ _
  · refine ((pay17_at _ _ g l).trans (?_ : _ = mkIdx (M3.view.read (Elt F) f3) (ix3 3 g l))).trans (congrArg (mkIdx (M3.view.read (Elt F) f3)) ?_)
    · exact (mkIdx_odd _ _ _ _ _ rfl rfl).symm
    · refine funext fun d => Fin.ext ?_
      fin_cases d <;> simp [Rect.emb_apply, ix3]
  · refine ((pay7_at _ _ g l).trans (?_ : _ = mkIdx (M3.view.read (Elt F) f3) (ix3 2 g l))).trans (congrArg (mkIdx (M3.view.read (Elt F) f3)) ?_)
    · exact (mkIdx_even _ _ _ _ _ rfl rfl).symm
    · refine funext fun d => Fin.ext ?_
      fin_cases d <;> simp [Rect.emb_apply, ix3]
  · refine ((pay5_at _ _ g l).trans (?_ : _ = mkIdx (M3.view.read (Elt F) f3) (ix3 1 g l))).trans (congrArg (mkIdx (M3.view.read (Elt F) f3)) ?_)
    · exact (mkIdx_odd _ _ _ _ _ rfl rfl).symm
    · refine funext fun d => Fin.ext ?_
      fin_cases d <;> simp [Rect.emb_apply, ix3]
  · refine ((pay4_at _ _ g l).trans (?_ : _ = mkIdx (M3.view.read (Elt F) f3) (ix3 0 g l))).trans (congrArg (mkIdx (M3.view.read (Elt F) f3)) ?_)
    · exact (mkIdx_even _ _ _ _ _ rfl rfl).symm
    · refine funext fun d => Fin.ext ?_
      fin_cases d <;> simp [Rect.emb_apply, ix3]

end Reads

/-! ## The preparation: the first part of the body -/

set_option sl_exec.squeezeSlice true in
/-- The words and table rows the first part hands on. -/
abbrev prepRes (c : Dev nD) (i : grid0.Coords) (M12 : Memref sig .tc .vmem S2x2x8x128 .f32) (g12 : Bf (F := F) c M12) :
    Σ' (arg1 : BitVec 32) (v0 : BitVec 32) (v2 : BitVec 32) (v12 : BitVec 32) (v25 : FVec F S8x128 .f32), FVec F S8x128 .f32 :=
  ⟨BitVec.ofNat 32 (i 1).val, Scalar.minsi (BitVec.ofNat 32 (i 0).val) 35#32,
            Scalar.select (Scalar.cmpi .slt (BitVec.ofNat 32 (i 0).val) 36#32) (BitVec.ofNat 32 (i 1).val) 3#32,
            Scalar.select (Scalar.andi (Scalar.xori (Scalar.cmpi .slt (Scalar.remsi (BitVec.ofNat 32 (i 0).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 0).val) (Scalar.select (Scalar.cmpi .eq 2#32 0#32) 1#32 2#32)) 0#32)) (Scalar.addi (Scalar.remsi (BitVec.ofNat 32 (i 0).val) (Scalar.select (Scalar.cmpi .eq 2#32 0#32) 1#32 2#32)) (Scalar.select (Scalar.cmpi .eq 2#32 0#32) 1#32 2#32)) (Scalar.remsi (BitVec.ofNat 32 (i 0).val) (Scalar.select (Scalar.cmpi .eq 2#32 0#32) 1#32 2#32)),
            k0_pay18 (View.readAt (Elt F) M12.view (Rect.unit (s := S2x2x8x128) ![0, 0, 0, 0] S1x1x8x128.size inb_S2x2x8x128_S1x1x8x128_0_0_0_0).toLoadRect g12),
            k0_pay19 (View.readAt (Elt F) M12.view (Rect.unit (s := S2x2x8x128) ![0, 1, 0, 0] S1x1x8x128.size inb_S2x2x8x128_S1x1x8x128_0_1_0_0).toLoadRect g12)⟩

/-- The table halves loaded back right after they are stored are the ones loaded from the finished buffer. -/
theorem prepRes_cov (c : Dev nD) (i : grid0.Coords) (M4 : Memref sig .tc .vmem S2x8x256 .bf16) (M12 : Memref sig .tc .vmem S2x2x8x128 .f32) (f4 : Bf (F := F) c M4) (f12 : Bf (F := F) c M12) :
    (⟨(prepRes c i M12 f12).1, (prepRes c i M12 f12).2.1, (prepRes c i M12 f12).2.2.1, (prepRes c i M12 f12).2.2.2.1,
      k0_pay18 (M12.view.readCov (tabPieces c M4 f4) (Rect.unit (s := S2x2x8x128) ![0, 0, 0, 0] S1x1x8x128.size inb_S2x2x8x128_S1x1x8x128_0_0_0_0).toLoadRect),
      k0_pay19 (M12.view.readCov (tabPieces c M4 f4) (Rect.unit (s := S2x2x8x128) ![0, 1, 0, 0] S1x1x8x128.size inb_S2x2x8x128_S1x1x8x128_0_1_0_0).toLoadRect)⟩ :
      Σ' (arg1 : BitVec 32) (v0 : BitVec 32) (v2 : BitVec 32) (v12 : BitVec 32) (v25 : FVec F S8x128 .f32), FVec F S8x128 .f32)
    = prepRes c i M12 (M12.view.writes (Elt F) f12 (tabPieces c M4 f4)) := by
  have hcov := View.cover_of_tiled (tabPieces c M4 f4) S1x1x8x128.size (by sl_kernel_rfl)
  unfold prepRes
  rw [View.readAt_writes_of_cover M12.view f12 (tabPieces c M4 f4) _ (fun j => hcov _),
    View.readAt_writes_of_cover M12.view f12 (tabPieces c M4 f4) _ (fun j => hcov _)]

/-- The first part of the body: the codebook tables and the zeroed sums at the first point, one block of `h` in the first
    tile, the index rows at each tile's first point. -/
theorem prep (c : Dev nD) (i : grid0.Coords)
    (M2 : Memref sig .tc .vmem S128x896 .f32) (h2 : M2.IsWhole) (M3 : Memref sig .tc .vmem S1x2x448x128 .i8) (h3 : M3.IsWhole)
    (M4 : Memref sig .tc .vmem S2x8x256 .bf16) (h4 : M4.IsWhole) (M5 : Memref sig .tc .vmem S4x128 .f32) (h5 : M5.IsWhole)
    (M6 : Memref sig .tc .vmem S512x896 .f32) (h6 : M6.IsWhole) (M7 : Memref sig .tc .vmem S128x128 .f32) (h7 : M7.IsWhole)
    (M8 : Memref sig .tc .vmem S128x896 .bf16) (h8 : M8.IsWhole) (M9 : Memref sig .tc .vmem S4x896x512 .bf16) (h9 : M9.IsWhole)
    (M10 : Memref sig .tc .vmem S2x4x128x128 .f32) (h10 : M10.IsWhole) (M11 : Memref sig .tc .vmem S4x448x128 .i32) (h11 : M11.IsWhole)
    (M12 : Memref sig .tc .vmem S2x2x8x128 .f32) (h12 : M12.IsWhole)
    (f3 : Bf (F := F) c M3) (f4 : Bf (F := F) c M4) (f6 : Bf (F := F) c M6)
    (f9 : Bf (F := F) c M9) (f10 : Bf (F := F) c M10) (f11 : Bf (F := F) c M11) (f12 : Bf (F := F) c M12)
    (E : Set ℕ) (Q : _ → sProp 𝕄) :
    iprop(pt c M3 f3 ∗ pt c M4 f4 ∗ pt c M6 f6 ∗ pt c M9 f9 ∗ pt c M10 f10 ∗ pt c M11 f11 ∗ pt c M12 f12
      ∗ (∀ g9 g10 g11 g12 r, ⌜M9.view.read (Elt F) g9 = nH i (M6.view.read (Elt F) f6) (M9.view.read (Elt F) f9)
            ∧ M10.view.read (Elt F) g10 = nSum i (M10.view.read (Elt F) f10)
            ∧ M11.view.read (Elt F) g11 = nIdx i (M3.view.read (Elt F) f3) (M11.view.read (Elt F) f11)
            ∧ M12.view.read (Elt F) g12 = nTab i (M4.view.read (Elt F) f4) (M12.view.read (Elt F) f12)
            ∧ r = prepRes c i M12 g12⌝
          -∗ (pt c M3 f3 ∗ pt c M4 f4 ∗ pt c M6 f6 ∗ pt c M9 g9 ∗ pt c M10 g10 ∗ pt c M11 g11 ∗ pt c M12 g12)
          -∗ Q r))
    ⊢ wp frame (wpE (defs₀ (F := F)) Variants.none c none) E
        (k0_part2 i M2 h2 M3 h3 M4 h4 M5 h5 M6 h6 M7 h7 M8 h8 M9 h9 M10 h10 M11 h11 M12 h12) Q := by
  iintro ⟨H3, H4, H6, H9, H10, H11, H12, Hk⟩

  by_cases hc1 : cond1 i = 1#1 <;> by_cases hc2 : k0_cond2 i = 1#1 <;> by_cases hc3 : cond3 i = 1#1
  · sl_unfold [k0_part2]
    sl_exec_parts
    sl_step
    iapply Hk $$ %_ %_ %_ %_ %_ [] [H3 H4 H6 H9 H10 H11 H12]
    · ipureintro
      exact ⟨(read_h c i ((cond2_iff i).mp hc2) (k0_off1_inb i hc2) M6 M9 f6 f9),
      (read_sum c M10 f10).trans (if_pos ((cond1_iff i).mp hc1)).symm,
      (read_idx c M3 M11 f3 f11).trans (if_pos ((cond3_iff i).mp hc3)).symm,
      (read_tab c M4 M12 f4 f12).trans (if_pos ((cond1_iff i).mp hc1)).symm, prepRes_cov c i M4 M12 f4 f12⟩
    · isplitl [H3]; iexact H3
      isplitl [H4]; iexact H4
      isplitl [H6]; iexact H6
      isplitl [H9]; iexact H9
      isplitl [H10]; iexact H10
      isplitl [H11]; iexact H11
      iexact H12
  · exact absurd ((cond3_iff i).mpr ((cond1_iff i).mp hc1).2) hc3
  · exact absurd ((cond2_iff i).mpr ((cond1_iff i).mp hc1).1) hc2
  · exact absurd ((cond2_iff i).mpr ((cond1_iff i).mp hc1).1) hc2
  · exact absurd ((cond1_iff i).mpr ⟨(cond2_iff i).mp hc2, (cond3_iff i).mp hc3⟩) hc1
  · sl_unfold [k0_part2]
    sl_exec_parts
    sl_step
    iapply Hk $$ %_ %_ %_ %_ %_ [] [H3 H4 H6 H9 H10 H11 H12]
    · ipureintro
      exact ⟨(read_h c i ((cond2_iff i).mp hc2) (k0_off1_inb i hc2) M6 M9 f6 f9),
      (if_neg (fun h => hc1 ((cond1_iff i).mpr h))).symm,
      (if_neg (fun h => hc3 ((cond3_iff i).mpr h))).symm,
      (if_neg (fun h => hc1 ((cond1_iff i).mpr h))).symm, rfl⟩
    · isplitl [H3]; iexact H3
      isplitl [H4]; iexact H4
      isplitl [H6]; iexact H6
      isplitl [H9]; iexact H9
      isplitl [H10]; iexact H10
      isplitl [H11]; iexact H11
      iexact H12
  · sl_unfold [k0_part2]
    sl_exec_parts
    sl_step
    iapply Hk $$ %_ %_ %_ %_ %_ [] [H3 H4 H6 H9 H10 H11 H12]
    · ipureintro
      exact ⟨(funext fun j => (if_neg (fun h => hc2 ((cond2_iff i).mpr h.1))).symm),
      (if_neg (fun h => hc1 ((cond1_iff i).mpr h))).symm,
      (read_idx c M3 M11 f3 f11).trans (if_pos ((cond3_iff i).mp hc3)).symm,
      (if_neg (fun h => hc1 ((cond1_iff i).mpr h))).symm, rfl⟩
    · isplitl [H3]; iexact H3
      isplitl [H4]; iexact H4
      isplitl [H6]; iexact H6
      isplitl [H9]; iexact H9
      isplitl [H10]; iexact H10
      isplitl [H11]; iexact H11
      iexact H12
  · sl_unfold [k0_part2]
    sl_exec_parts
    sl_step
    iapply Hk $$ %_ %_ %_ %_ %_ [] [H3 H4 H6 H9 H10 H11 H12]
    · ipureintro
      exact ⟨(funext fun j => (if_neg (fun h => hc2 ((cond2_iff i).mpr h.1))).symm),
      (if_neg (fun h => hc1 ((cond1_iff i).mpr h))).symm,
      (if_neg (fun h => hc3 ((cond3_iff i).mpr h))).symm,
      (if_neg (fun h => hc1 ((cond1_iff i).mpr h))).symm, rfl⟩
    · isplitl [H3]; iexact H3
      isplitl [H4]; iexact H4
      isplitl [H6]; iexact H6
      isplitl [H9]; iexact H9
      isplitl [H10]; iexact H10
      isplitl [H11]; iexact H11
      iexact H12

end Cert.KernelIdeal.Hand
end
-- ==== Proof.Pieces.lean ====
module

public import proofs.«01_k».proof.Proof.Prep

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise

variable {F : FTy → Type} [FloatOps F]

local notation "𝕄" => MT nD τ sig Unit (Elt F) ℕ (UR sig nD τ) ℕ

/-! ## The seven stores of the remainder block, regularly -/

section Pieces
variable (c : Dev nD) (i : grid0.Coords)
  (M2 : Memref sig .tc .vmem S128x896 .f32) (M5 : Memref sig .tc .vmem S4x128 .f32)
  (M11 : Memref sig .tc .vmem S4x448x128 .i32) (M12 : Memref sig .tc .vmem S2x2x8x128 .f32)
  (f2 : Bf (F := F) c M2) (f5 : Bf (F := F) c M5) (g11 : Bf (F := F) c M11) (g12 : Bf (F := F) c M12)

/-- One index row as the body loads it: row `off4` of plane `m`. -/
def rowF (a : Fin 7) (b : Fin 16) (m : ℕ) (hm : ∀ x, (![m, 0, 0] : Fin 3 → ℕ) x + S1x448x128.size x ≤ S4x448x128.size x) : Vec F S1x128 .i32 :=
  LoadRect.valAlong
    (LoadRect.numel_consLift (Rect.unit (s := S448x128) (k0_off4 i (BitVec.ofNat 32 a.val) (BitVec.ofNat 32 b.val)) S1x128.size (k0_off4_inb i a b)).toLoadRect
      ![1, 448, 128] (by decide) (by decide))
    (View.readAt (Elt F) M11.view
      ((Rect.unit (s := S4x448x128) ![m, 0, 0] S1x448x128.size hm).withinL
        ((Rect.unit (s := S448x128) (k0_off4 i (BitVec.ofNat 32 a.val) (BitVec.ofNat 32 b.val)) S1x128.size (k0_off4_inb i a b)).toLoadRect.consLift
          ![1, 448, 128] (by decide) (by decide))
        (fun _ => rfl)) g11)

/-- The scale row, eight times. -/
def scaleF : FVec F S8x128 .f32 :=
  broadcastTo S8x128 (shapeCast S1x128 (View.readAt (Elt F) M5.view (Rect.unit (s := S4x128) (k0_off3 i) S1x128.size (k0_off3_inb i)).toLoadRect f5) shapeCasts_S1x128_S1x128) broadcasts_S1x128_S8x128
/-- Half `n` of codebook `m`. -/
def halfF (m n : ℕ) (hm : ∀ x, (![m, n, 0, 0] : Fin 4 → ℕ) x + S1x1x8x128.size x ≤ S2x2x8x128.size x) : FVec F S8x128 .f32 :=
  shapeCast S8x128 (View.readAt (Elt F) M12.view (Rect.unit (s := S2x2x8x128) ![m, n, 0, 0] S1x1x8x128.size hm).toLoadRect g12) shapeCasts_S1x1x8x128_S8x128

/-- Eight columns of the scaled decode, transposed. -/
def partF (a : Fin 7) (b : Fin 16) : FVec F S8x128 .f32 :=
  k0_pay27 (halfF c M12 g12 1 0 inb_S2x2x8x128_S1x1x8x128_1_0_0_0) (halfF c M12 g12 1 1 inb_S2x2x8x128_S1x1x8x128_1_1_0_0) (scaleF c i M5 f5)
    (k0_pay25 (halfF c M12 g12 0 0 inb_S2x2x8x128_S1x1x8x128_0_0_0_0) (rowF c i M11 g11 a b 0 inb_S4x448x128_S1x448x128_0_0_0))
    (k0_pay26 (halfF c M12 g12 0 1 inb_S2x2x8x128_S1x1x8x128_0_1_0_0) (rowF c i M11 g11 a b 0 inb_S4x448x128_S1x448x128_0_0_0))
    (rowF c i M11 g11 a b 1 inb_S4x448x128_S1x448x128_1_0_0) (rowF c i M11 g11 a b 2 inb_S4x448x128_S1x448x128_2_0_0)
    (rowF c i M11 g11 a b 3 inb_S4x448x128_S1x448x128_3_0_0)

/-- One 128-column piece of the rounded remainder. -/
def pieceF (a : Fin 7) (w : Vec F S128x128 .f32) : FVec F S128x128 .bf16 :=
  truncf .bf16 (subf (shapeCast S128x128 w shapeCasts_S128x128_S128x128)
    (transpose S128x128 [1, 0] (concatenate S128x128 0
      ([⟨S8x128, partF c i M5 M11 M12 f5 g11 g12 a 0⟩, ⟨S8x128, partF c i M5 M11 M12 f5 g11 g12 a 1⟩, ⟨S8x128, partF c i M5 M11 M12 f5 g11 g12 a 2⟩, ⟨S8x128, partF c i M5 M11 M12 f5 g11 g12 a 3⟩, ⟨S8x128, partF c i M5 M11 M12 f5 g11 g12 a 4⟩, ⟨S8x128, partF c i M5 M11 M12 f5 g11 g12 a 5⟩, ⟨S8x128, partF c i M5 M11 M12 f5 g11 g12 a 6⟩, ⟨S8x128, partF c i M5 M11 M12 f5 g11 g12 a 7⟩, ⟨S8x128, partF c i M5 M11 M12 f5 g11 g12 a 8⟩, ⟨S8x128, partF c i M5 M11 M12 f5 g11 g12 a 9⟩, ⟨S8x128, partF c i M5 M11 M12 f5 g11 g12 a 10⟩, ⟨S8x128, partF c i M5 M11 M12 f5 g11 g12 a 11⟩, ⟨S8x128, partF c i M5 M11 M12 f5 g11 g12 a 12⟩, ⟨S8x128, partF c i M5 M11 M12 f5 g11 g12 a 13⟩, ⟨S8x128, partF c i M5 M11 M12 f5 g11 g12 a 14⟩, ⟨S8x128, partF c i M5 M11 M12 f5 g11 g12 a 15⟩])
      concatenates_S8x128_S8x128_S8x128_S8x128_S8x128_S8x128_S8x128_S8x128_S8x128_S8x128_S8x128_S8x128_S8x128_S8x128_S8x128_S8x128_S128x128_d0)
      transposes_S128x128_p1_0_S128x128)) bitsLt_bf16_f32

/-! ### The loads and the pieces, at an index -/

/-- The column block of a point, as a number. -/
theorem stepOf_val (i : grid0.Coords) : (stepOf i).val = if (i 0).val < 36 then (i 1).val else 3 := by
  unfold stepOf
  split <;> rfl

/-- A loaded index row, at an index. -/
theorem rowF_at (a : Fin 7) (b : Fin 16) (m : ℕ) (hm) (k : Fin 4) (hk : k.val = m) (g : Fin 448)
    (hg : g.val = 112 * (stepOf i).val + 16 * a.val + b.val) (z : Fin 1) (o : Fin 128) :
    rowF c i M11 g11 a b m hm (ix2 z o) = M11.view.read (Elt F) g11 (ix3 k g o) := by
  unfold rowF
  have hx := Shape.reshapeEquiv_cons_one (d := S1x128.size)
    (LoadRect.numel_consLift (Rect.unit (s := S448x128) (k0_off4 i (BitVec.ofNat 32 a.val) (BitVec.ofNat 32 b.val)) S1x128.size (k0_off4_inb i a b)).toLoadRect
      ![1, 448, 128] (by decide) (by decide)) (ix2 z o)
  have ho := off4_eq i a b
  have hs := stepOf_val i
  obtain rfl : z = 0 := Subsingleton.elim _ _
  show M11.view.read (Elt F) g11 _ = _
  refine congrArg _ ?_
  rw [Rect.idx_withinL]
  refine (congrArg _ (congrArg _ hx)).trans ?_
  refine funext fun d => Fin.ext ?_
  have h0 : k0_off4 i (BitVec.ofNat 32 a.val) (BitVec.ofNat 32 b.val) 0 = 112 * (stepOf i).val + 16 * a.val + b.val := by
    rw [ho, hs]; rfl
  have h1 : k0_off4 i (BitVec.ofNat 32 a.val) (BitVec.ofNat 32 b.val) 1 = 0 := by rw [ho]; rfl
  fin_cases d
  · show m + 1 * (0 + 1 * 0) = k.val
    omega
  · show 0 + 1 * (k0_off4 i (BitVec.ofNat 32 a.val) (BitVec.ofNat 32 b.val) 0 + 1 * 0) = g.val
    omega
  · show 0 + 1 * (k0_off4 i (BitVec.ofNat 32 a.val) (BitVec.ofNat 32 b.val) 1 + 1 * o.val) = o.val
    omega

/-- The scales of a point: those of its tile's batch, the same in every row. -/
theorem scaleF_at (e : Fin 8) (o : Fin 128) : scaleF c i M5 f5 (ix2 e o) = M5.view.read (Elt F) f5 (ix2 (batchOf i) o) := by
  have ho := off3_eq i
  pointwise [scaleF]
  rw [View.readAt_apply]
  refine congrArg _ (funext fun d => Fin.ext ?_)
  fin_cases d
  · show k0_off3 i 0 + 1 * 0 = (batchOf i).val
    rw [ho]; simp [batchOf]
  · show k0_off3 i 1 + 1 * o.val = o.val
    rw [ho]; simp

omit [FloatOps F] in
/-- A block of two leading unit axes without them. -/
theorem squeeze_at (x : Vec F S1x1x8x128 .f32) (e : Fin 8) (l : Fin 128) : shapeCast S8x128 x shapeCasts_S1x1x8x128_S8x128 (ix2 e l) = x (ix4 0 0 e l) := by
  pointwise []

/-- A loaded half of a codebook table, at an index. -/
theorem halfF_at (m n : ℕ) (hm) (k : Fin 2) (hk : k.val = m) (q : Fin 2) (hq : q.val = n) (e : Fin 8) (l : Fin 128) :
    halfF c M12 g12 m n hm (ix2 e l) = M12.view.read (Elt F) g12 (ix4 k q e l) := by
  unfold halfF
  rw [squeeze_at, View.readAt_apply]
  refine congrArg _ (funext fun d => Fin.ext ?_)
  fin_cases d
  · show m + 1 * 0 = k.val
    omega
  · show n + 1 * 0 = q.val
    omega
  · show 0 + 1 * e.val = e.val
    omega
  · show 0 + 1 * l.val = l.val
    omega

/-- The decoding of one group on loaded values: the scale times the sum of both selected entries. -/
theorem pay27_at (s25 s27 v29 v31 s42 : FVec F S8x128 .f32) (r0 r1 r2 r3 : Vec F S1x128 .i32) (e : Fin 8) (o : Fin 128) :
    k0_pay27 v29 v31 s42 (k0_pay25 s25 r0) (k0_pay26 s27 r0) r1 r2 r3 (ix2 e o)
    = FloatOps.mulf (s42 (ix2 e o)) (FloatOps.addf
        (Scalar.select (IntOp.cmpi .eq (r1 (ix2 0 o)) 16#32)
          (s25 (ix2 e ⟨(show BitVec 32 from r0 (ix2 0 o)).toNat % 128, Nat.mod_lt _ (by norm_num)⟩))
          (s27 (ix2 e ⟨(show BitVec 32 from r0 (ix2 0 o)).toNat % 128, Nat.mod_lt _ (by norm_num)⟩)))
        (Scalar.select (IntOp.cmpi .eq (r3 (ix2 0 o)) 16#32)
          (v29 (ix2 e ⟨(show BitVec 32 from r2 (ix2 0 o)).toNat % 128, Nat.mod_lt _ (by norm_num)⟩))
          (v31 (ix2 e ⟨(show BitVec 32 from r2 (ix2 0 o)).toNat % 128, Nat.mod_lt _ (by norm_num)⟩)))) := by
  pointwise [k0_pay27, k0_pay25, k0_pay26, k0_pay24]

/-- The decoded rows of one group, at an index. -/
theorem partF_at (a : Fin 7) (b : Fin 16) (g : Fin 448) (hg : g.val = 112 * (stepOf i).val + 16 * a.val + b.val) (e : Fin 8) (o : Fin 128) :
    partF c i M5 M11 M12 f5 g11 g12 a b (ix2 e o)
    = dq (M5.view.read (Elt F) f5 (ix2 (batchOf i) o)) (M11.view.read (Elt F) g11) (M12.view.read (Elt F) g12) g e o := by
  unfold partF
  rw [pay27_at, scaleF_at, halfF_at c M12 g12 0 0 _ 0 rfl 0 rfl, halfF_at c M12 g12 0 1 _ 0 rfl 1 rfl,
    halfF_at c M12 g12 1 0 _ 1 rfl 0 rfl, halfF_at c M12 g12 1 1 _ 1 rfl 1 rfl]
  simp only [rowF_at c i M11 g11 a b 0 _ 0 rfl g hg, rowF_at c i M11 g11 a b 1 _ 1 rfl g hg,
    rowF_at c i M11 g11 a b 2 _ 2 rfl g hg, rowF_at c i M11 g11 a b 3 _ 3 rfl g hg]
  rfl

omit [FloatOps F] in
/-- Sixteen groups of eight rows, one on another, at an index. -/
theorem cat_at (P : Fin 16 → FVec F S8x128 .f32) (l o : Fin 128) (e : Fin 8) (he : e.val = l.val % 8) (t : Fin 16) (ht : l.val / 8 = t.val) :
    concatenate S128x128 0 [⟨S8x128, P 0⟩, ⟨S8x128, P 1⟩, ⟨S8x128, P 2⟩, ⟨S8x128, P 3⟩, ⟨S8x128, P 4⟩, ⟨S8x128, P 5⟩, ⟨S8x128, P 6⟩, ⟨S8x128, P 7⟩, ⟨S8x128, P 8⟩, ⟨S8x128, P 9⟩, ⟨S8x128, P 10⟩, ⟨S8x128, P 11⟩, ⟨S8x128, P 12⟩, ⟨S8x128, P 13⟩, ⟨S8x128, P 14⟩, ⟨S8x128, P 15⟩] concatenates_S8x128_S8x128_S8x128_S8x128_S8x128_S8x128_S8x128_S8x128_S8x128_S8x128_S8x128_S8x128_S8x128_S8x128_S8x128_S8x128_S128x128_d0 (ix2 l o) = P t (ix2 e o) :=
  concatenate_ofFn_apply (t := S128x128) (s₁ := S8x128) 0 P concatenates_S8x128_S8x128_S8x128_S8x128_S8x128_S8x128_S8x128_S8x128_S8x128_S8x128_S8x128_S8x128_S8x128_S8x128_S8x128_S8x128_S128x128_d0
    rfl 8 rfl (ix2 l o) t ht (ix2 e o) he (by
      intro b hb
      fin_cases b
      · exact absurd rfl hb
      · rfl)

/-- The rounded difference at an index. -/
theorem sub_at (w T : FVec F S128x128 .f32) (o l : Fin 128) :
    truncf .bf16 (subf (shapeCast S128x128 w shapeCasts_S128x128_S128x128) (transpose S128x128 [1, 0] T transposes_S128x128_p1_0_S128x128)) bitsLt_bf16_f32 (ix2 o l)
    = FloatOps.truncf .bf16 bitsLt_bf16_f32 (FloatOps.subf (w (ix2 o l)) (T (ix2 l o))) := by
  pointwise []

/-- One stored piece of 128 columns of the residual, at an index. -/
theorem pieceF_at (a : Fin 7) (w : Vec F S128x128 .f32) (o l : Fin 128) (g : Fin 448) (hg : g.val = 112 * (stepOf i).val + 16 * a.val + l.val / 8) (e : Fin 8)
    (he : e.val = l.val % 8) :
    pieceF c i M5 M11 M12 f5 g11 g12 a w (ix2 o l)
    = FloatOps.truncf .bf16 bitsLt_bf16_f32 (FloatOps.subf (w (ix2 o l))
        (dq (M5.view.read (Elt F) f5 (ix2 (batchOf i) o)) (M11.view.read (Elt F) g11) (M12.view.read (Elt F) g12) g e o)) := by
  have hb : l.val / 8 < 16 := by omega
  unfold pieceF
  rw [sub_at, cat_at (fun t => partF c i M5 M11 M12 f5 g11 g12 a t) l o e he ⟨l.val / 8, hb⟩ rfl,
    partF_at c i M5 M11 M12 f5 g11 g12 a ⟨l.val / 8, hb⟩ g hg e o]

/-- The seven stores. -/
def H8F : List (View.Piece (Elt F) S128x896 .bf16) :=
  [⟨Rect.unit (s := S128x896) ![0, 768] S128x128.size inb_S128x896_S128x128_0_768,
      pieceF c i M5 M11 M12 f5 g11 g12 6 (View.readAt (Elt F) M2.view (Rect.unit (s := S128x896) ![0, 768] S128x128.size inb_S128x896_S128x128_0_768).toLoadRect f2)⟩,
   ⟨Rect.unit (s := S128x896) ![0, 640] S128x128.size inb_S128x896_S128x128_0_640,
      pieceF c i M5 M11 M12 f5 g11 g12 5 (View.readAt (Elt F) M2.view (Rect.unit (s := S128x896) ![0, 640] S128x128.size inb_S128x896_S128x128_0_640).toLoadRect f2)⟩,
   ⟨Rect.unit (s := S128x896) ![0, 512] S128x128.size inb_S128x896_S128x128_0_512,
      pieceF c i M5 M11 M12 f5 g11 g12 4 (View.readAt (Elt F) M2.view (Rect.unit (s := S128x896) ![0, 512] S128x128.size inb_S128x896_S128x128_0_512).toLoadRect f2)⟩,
   ⟨Rect.unit (s := S128x896) ![0, 384] S128x128.size inb_S128x896_S128x128_0_384,
      pieceF c i M5 M11 M12 f5 g11 g12 3 (View.readAt (Elt F) M2.view (Rect.unit (s := S128x896) ![0, 384] S128x128.size inb_S128x896_S128x128_0_384).toLoadRect f2)⟩,
   ⟨Rect.unit (s := S128x896) ![0, 256] S128x128.size inb_S128x896_S128x128_0_256,
      pieceF c i M5 M11 M12 f5 g11 g12 2 (View.readAt (Elt F) M2.view (Rect.unit (s := S128x896) ![0, 256] S128x128.size inb_S128x896_S128x128_0_256).toLoadRect f2)⟩,
   ⟨Rect.unit (s := S128x896) ![0, 128] S128x128.size inb_S128x896_S128x128_0_128,
      pieceF c i M5 M11 M12 f5 g11 g12 1 (View.readAt (Elt F) M2.view (Rect.unit (s := S128x896) ![0, 128] S128x128.size inb_S128x896_S128x128_0_128).toLoadRect f2)⟩,
   ⟨Rect.unit (s := S128x896) ![0, 0] S128x128.size inb_S128x896_S128x128_0_0,
      pieceF c i M5 M11 M12 f5 g11 g12 0 (View.readAt (Elt F) M2.view (Rect.unit (s := S128x896) ![0, 0] S128x128.size inb_S128x896_S128x128_0_0).toLoadRect f2)⟩]

/-- The residual block after its seven pieces are stored reads as the rounded residual. -/
theorem read_r (M8 : Memref sig .tc .vmem S128x896 .bf16) (f8 : Bf (F := F) c M8) :
    M8.view.read (Elt F) (M8.view.writes (Elt F) f8 (H8F c i M2 M5 M11 M12 f2 f5 g11 g12))
    = rv i (M2.view.read (Elt F) f2) (M5.view.read (Elt F) f5) (M11.view.read (Elt F) g11) (M12.view.read (Elt F) g12) := by
  funext y
  refine View.read_writes_apply_of_pieces _ _ (rv i (M2.view.read (Elt F) f2) (M5.view.read (Elt F) f5) (M11.view.read (Elt F) g11) (M12.view.read (Elt F) g12)) _ ?_ y ?_
  swap
  · exact View.cover_of_tiled (s := S128x896) _ S128x128.size (by sl_kernel_rfl) y
  intro p hp
  unfold H8F at hp
  simp only [List.mem_cons, List.not_mem_nil, _root_.or_false] at hp
  have key : ∀ (a : Fin 7) (inb : ∀ x, (![0, 128 * a.val] : Fin 2 → ℕ) x + S128x128.size x ≤ S128x896.size x) (x : S128x128.Idx),
      pieceF c i M5 M11 M12 f5 g11 g12 a (View.readAt (Elt F) M2.view (Rect.unit (s := S128x896) ![0, 128 * a.val] S128x128.size inb).toLoadRect f2) x
      = rv i (M2.view.read (Elt F) f2) (M5.view.read (Elt F) f5) (M11.view.read (Elt F) g11) (M12.view.read (Elt F) g12) ((Rect.unit (s := S128x896) ![0, 128 * a.val] S128x128.size inb).emb x) := by
    intro a inb x
    obtain ⟨o, l, rfl⟩ : ∃ (o l : Fin 128), x = ix2 o l := ⟨x 0, x 1, eq_ix2 x⟩
    have hst := (stepOf i).isLt
    have hE : (Rect.unit (s := S128x896) ![0, 128 * a.val] S128x128.size inb).emb (ix2 o l) = ix2 o ⟨128 * a.val + l.val, by omega⟩ := by
      refine funext fun d => Fin.ext ?_
      fin_cases d <;> simp [Rect.emb_apply, ix2]
    have rflg : 112 * (stepOf i).val + (128 * a.val + l.val) / 8 = 112 * (stepOf i).val + 16 * a.val + l.val / 8 := by omega
    have rfle : (128 * a.val + l.val) % 8 = l.val % 8 := by omega
    rw [hE, pieceF_at c i M5 M11 M12 f5 g11 g12 a _ o l ⟨112 * (stepOf i).val + (128 * a.val + l.val) / 8, by omega⟩ rflg ⟨(128 * a.val + l.val) % 8, by omega⟩ rfle]
    rw [show View.readAt (Elt F) M2.view (Rect.unit (s := S128x896) ![0, 128 * a.val] S128x128.size inb).toLoadRect f2 (ix2 o l) = M2.view.read (Elt F) f2 (ix2 o ⟨128 * a.val + l.val, by omega⟩) from congrArg (M2.view.read (Elt F) f2) hE]
    rfl
  rcases hp with rfl | rfl | rfl | rfl | rfl | rfl | rfl
  · exact key 6 _
  · exact key 5 _
  · exact key 4 _
  · exact key 3 _
  · exact key 2 _
  · exact key 1 _
  · exact key 0 _

end Pieces

/-! ## The product block, the running sums -/

section Sums
variable (c : Dev nD) (i : grid0.Coords)

/-- The rounded remainder as the product reads it back. -/
theorem readCov_r (M2 : Memref sig .tc .vmem S128x896 .f32) (M5 : Memref sig .tc .vmem S4x128 .f32)
    (M11 : Memref sig .tc .vmem S4x448x128 .i32) (M12 : Memref sig .tc .vmem S2x2x8x128 .f32)
    (f2 : Bf (F := F) c M2) (f5 : Bf (F := F) c M5) (g11 : Bf (F := F) c M11) (g12 : Bf (F := F) c M12) (M8 : Memref sig .tc .vmem S128x896 .bf16) :
    M8.view.readCov (H8F c i M2 M5 M11 M12 f2 f5 g11 g12) (Rect.unit (s := S128x896) ![0, 0] S128x896.size inb_S128x896_S128x896_0_0).toLoadRect
    = rv i (M2.view.read (Elt F) f2) (M5.view.read (Elt F) f5) (M11.view.read (Elt F) g11) (M12.view.read (Elt F) g12) := by
  funext j
  unfold View.readCov
  rw [View.readAt_apply]
  have e := read_r c i M2 M5 M11 M12 f2 f5 g11 g12 M8 M8.view.junk
  refine (congrFun e _).trans (congrArg _ (funext fun d => Fin.ext ?_))
  fin_cases d
  · show 0 + 1 * (j 0).val = (j 0).val
    omega
  · show 0 + 1 * (j 1).val = (j 1).val
    omega

/-- A selection between two blocks by one word is made at every index. -/
theorem sel_at {n : Nat} (b : BitVec 1) (x y : FVec F S128x128 .f32) (j) : (Scalar.select b x y : FVec F S128x128 .f32) j = Scalar.select b (x j) (y j) := by
  unfold Scalar.select
  split <;> rfl

/-- The first stored column block of the running sum, at an index. -/
theorem pay416_at (a : BitVec 32) (R : Vec F S128x896 .bf16) (h : Vec F S1x896x512 .bf16) (old : Vec F S1x1x128x128 .f32) (z z' : Fin 1) (o l : Fin 128) :
    k0_pay417 (k0_pay416 a R h old) (ix4 z z' o l)
    = FloatOps.addf (Scalar.select (Scalar.cmpi .eq a 0#32) zro (old (ix4 0 0 o l))) (k0_pay415 R h (ix2 o ⟨0 + l.val, by omega⟩)) := by
  pointwise [k0_pay417, k0_pay416]
  rfl
/-- The second stored column block of the running sum, at an index. -/
theorem pay418_at (a : BitVec 32) (D : FVec F S128x512 .f32) (old : Vec F S1x1x128x128 .f32) (z z' : Fin 1) (o l : Fin 128) :
    k0_pay418 a D old (ix4 z z' o l) = FloatOps.addf (Scalar.select (Scalar.cmpi .eq a 0#32) zro (old (ix4 0 0 o l))) (D (ix2 o ⟨128 + l.val, by omega⟩)) := by
  pointwise [k0_pay418]
  rfl
/-- The third stored column block of the running sum, at an index. -/
theorem pay419_at (a : BitVec 32) (D : FVec F S128x512 .f32) (old : Vec F S1x1x128x128 .f32) (z z' : Fin 1) (o l : Fin 128) :
    k0_pay419 a D old (ix4 z z' o l) = FloatOps.addf (Scalar.select (Scalar.cmpi .eq a 0#32) zro (old (ix4 0 0 o l))) (D (ix2 o ⟨256 + l.val, by omega⟩)) := by
  pointwise [k0_pay419]
  rfl
/-- The fourth stored column block of the running sum, at an index. -/
theorem pay420_at (a : BitVec 32) (D : FVec F S128x512 .f32) (old : Vec F S1x1x128x128 .f32) (z z' : Fin 1) (o l : Fin 128) :
    k0_pay1 (k0_pay420 a D old) (ix4 z z' o l) = FloatOps.addf (Scalar.select (Scalar.cmpi .eq a 0#32) zro (old (ix4 0 0 o l))) (D (ix2 o ⟨384 + l.val, by omega⟩)) := by
  pointwise [k0_pay1, k0_pay420]
  rfl

/-- The reshape of the residual block to its own shape changes nothing. -/
theorem mat_r (R : Vec F S128x896 .bf16) : shapeCast S128x896 R shapeCasts_S128x896_S128x896 = R := by
  funext j
  obtain ⟨o, l, rfl⟩ : ∃ (o : Fin 128) (l : Fin 896), j = ix2 o l := ⟨j 0, j 1, eq_ix2 j⟩
  pointwise []

/-- The loaded activations without their leading axis, at an index. -/
theorem mat_h (h : Vec F S1x896x512 .bf16) (d : Fin 896) (n : Fin 512) : shapeCast S896x512 h shapeCasts_S1x896x512_S896x512 (ix2 d n) = h (ix3 0 d n) := by
  pointwise []

/-- The product on the loaded operands is the product of the residual with the column block of the activations. -/
theorem dot_eq (M9 : Memref sig .tc .vmem S4x896x512 .bf16) (g9 : Bf (F := F) c M9) (R : Vec F S128x896 .bf16) :
    k0_pay415 R (View.readAt (Elt F) M9.view (Rect.unit (s := S4x896x512) (k0_off5 i) S1x896x512.size (k0_off5_inb i)).toLoadRect g9)
    = dot R (hMat (M9.view.read (Elt F) g9) (stepOf i)) := by
  have e : shapeCast S896x512 (View.readAt (Elt F) M9.view (Rect.unit (s := S4x896x512) (k0_off5 i) S1x896x512.size (k0_off5_inb i)).toLoadRect g9) shapeCasts_S1x896x512_S896x512
      = hMat (M9.view.read (Elt F) g9) (stepOf i) := by
    funext j
    obtain ⟨d, n, rfl⟩ : ∃ (d : Fin 896) (n : Fin 512), j = ix2 d n := ⟨j 0, j 1, eq_ix2 j⟩
    rw [mat_h, View.readAt_apply]
    unfold hMat
    refine congrArg _ (funext fun a => Fin.ext ?_)
    have ho := off5_eq i
    have hs := stepOf_val i
    fin_cases a
    · show k0_off5 i 0 + 1 * 0 = (stepOf i).val
      rw [ho, hs]; simp
    · show k0_off5 i 1 + 1 * d.val = d.val
      rw [ho]; simp
    · show k0_off5 i 2 + 1 * n.val = n.val
      rw [ho]; simp
  unfold k0_pay415 dot
  rw [mat_r, e]

/-- A loaded block of sums without its two leading axes, at an index. -/
theorem unsq_at (x : Vec F S1x1x128x128 .f32) (o l : Fin 128) : shapeCast S128x128 x shapeCasts_S1x1x128x128_S128x128 (ix2 o l) = x (ix4 0 0 o l) := by
  pointwise []

/-- A block of the running sums, at an index. -/
theorem old_at (M10 : Memref sig .tc .vmem S2x4x128x128 .f32) (g10 : Bf (F := F) c M10) (off : Fin 4 → ℕ) (inb) (a : Fin 2) (b : Fin 4) (ho : off = ![a.val, b.val, 0, 0]) (o l : Fin 128) :
    View.readAt (Elt F) M10.view (Rect.unit (s := S2x4x128x128) off S1x1x128x128.size inb).toLoadRect g10 (ix4 0 0 o l) = M10.view.read (Elt F) g10 (ix4 a b o l) := by
  subst ho
  rw [View.readAt_apply]
  refine congrArg _ (funext fun d => Fin.ext ?_)
  fin_cases d
  · show a.val + 1 * 0 = a.val
    omega
  · show b.val + 1 * 0 = b.val
    omega
  · show 0 + 1 * o.val = o.val
    omega
  · show 0 + 1 * l.val = l.val
    omega

/-- A store of a whole block, read at an index. -/
theorem hit7_at (M7 : Memref sig .tc .vmem S128x128 .f32) (f7 : Bf (F := F) c M7) (w : Vec F S128x128 .f32) (o l : Fin 128) :
    M7.view.read (Elt F) (M7.view.writes (Elt F) f7 [⟨Rect.unit (s := S128x128) ![0, 0] S128x128.size inb_S128x128_S128x128_0_0, w⟩]) (ix2 o l) = w (ix2 o l) := by
  refine View.read_writes_cons_hit_of_coords _ _ (Rect.unit (s := S128x128) ![0, 0] S128x128.size inb_S128x128_S128x128_0_0) w _ (ix2 o l) _ ?_
  intro d
  fin_cases d
  · show o.val = 0 + 1 * o.val
    omega
  · show l.val = 0 + 1 * l.val
    omega

/-- The output block of the products reads as the sums of the other slot. -/
theorem read_p (M7 : Memref sig .tc .vmem S128x128 .f32) (M10 : Memref sig .tc .vmem S2x4x128x128 .f32) (f7 : Bf (F := F) c M7) (g10 : Bf (F := F) c M10) :
    M7.view.read (Elt F) (M7.view.writes (Elt F) f7 [⟨Rect.unit (s := S128x128) ![0, 0] S128x128.size inb_S128x128_S128x128_0_0,
      shapeCast S128x128 (View.readAt (Elt F) M10.view (Rect.unit (s := S2x4x128x128) (k0_off2 i) S1x1x128x128.size (k0_off2_inb i)).toLoadRect g10) shapeCasts_S1x1x128x128_S128x128⟩])
    = oP i (M10.view.read (Elt F) g10) := by
  funext y
  obtain ⟨o, l, rfl⟩ : ∃ (o l : Fin 128), y = ix2 o l := ⟨y 0, y 1, eq_ix2 y⟩
  rw [hit7_at, unsq_at]
  exact old_at c M10 g10 (k0_off2 i) _ ⟨1 - (i 0).val % 2, by omega⟩ (colOf i) (off2_eq i) o l

/-- The four stores of the running sums. -/
def H10F (M9 : Memref sig .tc .vmem S4x896x512 .bf16) (M10 : Memref sig .tc .vmem S2x4x128x128 .f32) (g9 : Bf (F := F) c M9) (g10 : Bf (F := F) c M10)
    (R : Vec F S128x896 .bf16) : List (View.Piece (Elt F) S2x4x128x128 .f32) :=
  let h := View.readAt (Elt F) M9.view (Rect.unit (s := S4x896x512) (k0_off5 i) S1x896x512.size (k0_off5_inb i)).toLoadRect g9
  [⟨Rect.unit (s := S2x4x128x128) (k0_off9 i) S1x1x128x128.size (k0_off9_inb i),
      k0_pay1 (k0_pay420 (BitVec.ofNat 32 (i 1).val) (k0_pay415 R h) (View.readAt (Elt F) M10.view (Rect.unit (s := S2x4x128x128) (k0_off9 i) S1x1x128x128.size (k0_off9_inb i)).toLoadRect g10))⟩,
   ⟨Rect.unit (s := S2x4x128x128) (k0_off8 i) S1x1x128x128.size (k0_off8_inb i),
      k0_pay419 (BitVec.ofNat 32 (i 1).val) (k0_pay415 R h) (View.readAt (Elt F) M10.view (Rect.unit (s := S2x4x128x128) (k0_off8 i) S1x1x128x128.size (k0_off8_inb i)).toLoadRect g10)⟩,
   ⟨Rect.unit (s := S2x4x128x128) (k0_off7 i) S1x1x128x128.size (k0_off7_inb i),
      k0_pay418 (BitVec.ofNat 32 (i 1).val) (k0_pay415 R h) (View.readAt (Elt F) M10.view (Rect.unit (s := S2x4x128x128) (k0_off7 i) S1x1x128x128.size (k0_off7_inb i)).toLoadRect g10)⟩,
   ⟨Rect.unit (s := S2x4x128x128) (k0_off6 i) S1x1x128x128.size (k0_off6_inb i),
      k0_pay417 (k0_pay416 (BitVec.ofNat 32 (i 1).val) R h (View.readAt (Elt F) M10.view (Rect.unit (s := S2x4x128x128) (k0_off6 i) S1x1x128x128.size (k0_off6_inb i)).toLoadRect g10))⟩]

/-- The selection between zero and the old sum is made by whether the column block is the first. -/
theorem sel_first (x : F .f32) : Scalar.select (Scalar.cmpi .eq (BitVec.ofNat 32 (i 1).val) 0#32) zro x = if (i 1).val = 0 then (zro : F .f32) else x := by
  unfold Scalar.select
  by_cases h : (i 1).val = 0
  · exact (if_pos ((first_iff i).mpr h)).trans (if_pos h).symm
  · exact (if_neg (fun hh => h ((first_iff i).mp hh))).trans (if_neg h).symm

/-- A store of the sums misses every place with another slot or another block. -/
theorem miss_at (M10 : Memref sig .tc .vmem S2x4x128x128 .f32) (g10 : Bf (F := F) c M10) (off : Fin 4 → ℕ) (inb) (w) (L) (a : Fin 2) (b : Fin 4) (ho : off = ![a.val, b.val, 0, 0])
    (y : S2x4x128x128.Idx) (hy : (y 0).val ≠ a.val ∨ (y 1).val ≠ b.val) :
    M10.view.read (Elt F) (M10.view.writes (Elt F) g10 (⟨Rect.unit (s := S2x4x128x128) off S1x1x128x128.size inb, w⟩ :: L)) y = M10.view.read (Elt F) (M10.view.writes (Elt F) g10 L) y := by
  subst ho
  rcases hy with hy | hy
  · exact View.read_writes_cons_miss_of_axis _ _ _ _ y 0 a.val 1 rfl rfl rfl (by omega)
  · exact View.read_writes_cons_miss_of_axis _ _ _ _ y 1 b.val 1 rfl rfl rfl (by omega)

/-- A store of the sums, read at one of its own places. -/
theorem hit_at (M10 : Memref sig .tc .vmem S2x4x128x128 .f32) (g10 : Bf (F := F) c M10) (off : Fin 4 → ℕ) (inb) (w : Vec F S1x1x128x128 .f32) (L) (a : Fin 2) (b : Fin 4) (ho : off = ![a.val, b.val, 0, 0])
    (o l : Fin 128) :
    M10.view.read (Elt F) (M10.view.writes (Elt F) g10 (⟨Rect.unit (s := S2x4x128x128) off S1x1x128x128.size inb, w⟩ :: L)) (ix4 a b o l) = w (ix4 0 0 o l) := by
  subst ho
  refine View.read_writes_cons_hit_of_coords _ _ (Rect.unit (s := S2x4x128x128) ![a.val, b.val, 0, 0] S1x1x128x128.size inb) w _ (ix4 0 0 o l) _ ?_
  intro d
  fin_cases d
  · show a.val = a.val + 1 * 0
    omega
  · show b.val = b.val + 1 * 0
    omega
  · show o.val = 0 + 1 * o.val
    omega
  · show l.val = 0 + 1 * l.val
    omega

/-- The running sums after the four column blocks are stored. -/
theorem read_sums (M9 : Memref sig .tc .vmem S4x896x512 .bf16) (M10 : Memref sig .tc .vmem S2x4x128x128 .f32) (g9 : Bf (F := F) c M9) (g10 : Bf (F := F) c M10)
    (R : Vec F S128x896 .bf16) :
    M10.view.read (Elt F) (M10.view.writes (Elt F) g10 (H10F c i M9 M10 g9 g10 R))
    = oSum i (M10.view.read (Elt F) g10) (dot R (hMat (M9.view.read (Elt F) g9) (stepOf i))) := by
  funext y
  obtain ⟨a, b, o, l, rfl⟩ : ∃ (a : Fin 2) (b : Fin 4) (o l : Fin 128), y = ix4 a b o l := ⟨y 0, y 1, y 2, y 3, eq_ix4 y⟩
  unfold H10F
  simp only []
  have hk6 : ∀ hh, k0_off6 i = ![(⟨(i 0).val % 2, hh⟩ : Fin 2).val, (0 : Fin 4).val, 0, 0] := fun _ => off6_eq i
  have hk7 : ∀ hh, k0_off7 i = ![(⟨(i 0).val % 2, hh⟩ : Fin 2).val, (1 : Fin 4).val, 0, 0] := fun _ => off7_eq i
  have hk8 : ∀ hh, k0_off8 i = ![(⟨(i 0).val % 2, hh⟩ : Fin 2).val, (2 : Fin 4).val, 0, 0] := fun _ => off8_eq i
  have hk9 : ∀ hh, k0_off9 i = ![(⟨(i 0).val % 2, hh⟩ : Fin 2).val, (3 : Fin 4).val, 0, 0] := fun _ => off9_eq i
  have hlt : (i 0).val % 2 < 2 := Nat.mod_lt _ (by norm_num)
  by_cases ha : a.val = (i 0).val % 2
  · obtain rfl : a = ⟨(i 0).val % 2, hlt⟩ := Fin.ext ha
    have hR : ∀ (n : ℕ) (hn : n + l.val < 512), n = 128 * b.val →
        FloatOps.addf (Scalar.select (Scalar.cmpi .eq (BitVec.ofNat 32 (i 1).val) 0#32) zro (M10.view.read (Elt F) g10 (ix4 ⟨(i 0).val % 2, hlt⟩ b o l)))
          (k0_pay415 R (View.readAt (Elt F) M9.view (Rect.unit (s := S4x896x512) (k0_off5 i) S1x896x512.size (k0_off5_inb i)).toLoadRect g9) (ix2 o ⟨n + l.val, hn⟩))
        = oSum i (M10.view.read (Elt F) g10) (dot R (hMat (M9.view.read (Elt F) g9) (stepOf i))) (ix4 ⟨(i 0).val % 2, hlt⟩ b o l) := by
      intro n hn e
      subst e
      rw [sel_first, dot_eq]
      unfold oSum
      exact (if_pos rfl).symm
    fin_cases b
    · refine (miss_at c M10 g10 _ _ _ _ _ _ (hk9 hlt) _ (Or.inr (fun hh => absurd (show (_ : ℕ) = _ from hh) (by simp)))).trans ?_
      refine (miss_at c M10 g10 _ _ _ _ _ _ (hk8 hlt) _ (Or.inr (fun hh => absurd (show (_ : ℕ) = _ from hh) (by simp)))).trans ?_
      refine (miss_at c M10 g10 _ _ _ _ _ _ (hk7 hlt) _ (Or.inr (fun hh => absurd (show (_ : ℕ) = _ from hh) (by simp)))).trans ?_
      refine (hit_at c M10 g10 _ _ _ _ _ _ (hk6 hlt) o l).trans ?_
      rw [pay416_at, old_at c M10 g10 _ _ _ _ (hk6 hlt)]
      exact hR 0 _ rfl
    · refine (miss_at c M10 g10 _ _ _ _ _ _ (hk9 hlt) _ (Or.inr (fun hh => absurd (show (_ : ℕ) = _ from hh) (by simp)))).trans ?_
      refine (miss_at c M10 g10 _ _ _ _ _ _ (hk8 hlt) _ (Or.inr (fun hh => absurd (show (_ : ℕ) = _ from hh) (by simp)))).trans ?_
      refine (hit_at c M10 g10 _ _ _ _ _ _ (hk7 hlt) o l).trans ?_
      rw [pay418_at, old_at c M10 g10 _ _ _ _ (hk7 hlt)]
      exact hR 128 _ rfl
    · refine (miss_at c M10 g10 _ _ _ _ _ _ (hk9 hlt) _ (Or.inr (fun hh => absurd (show (_ : ℕ) = _ from hh) (by simp)))).trans ?_
      refine (hit_at c M10 g10 _ _ _ _ _ _ (hk8 hlt) o l).trans ?_
      rw [pay419_at, old_at c M10 g10 _ _ _ _ (hk8 hlt)]
      exact hR 256 _ rfl
    · refine (hit_at c M10 g10 _ _ _ _ _ _ (hk9 hlt) o l).trans ?_
      rw [pay420_at, old_at c M10 g10 _ _ _ _ (hk9 hlt)]
      exact hR 384 _ rfl
  · refine (miss_at c M10 g10 _ _ _ _ _ _ (hk9 hlt) _ (Or.inl ha)).trans ?_
    refine (miss_at c M10 g10 _ _ _ _ _ _ (hk8 hlt) _ (Or.inl ha)).trans ?_
    refine (miss_at c M10 g10 _ _ _ _ _ _ (hk7 hlt) _ (Or.inl ha)).trans ?_
    refine (miss_at c M10 g10 _ _ _ _ _ _ (hk6 hlt) _ (Or.inl ha)).trans ?_
    unfold oSum
    exact (if_neg ha).symm

end Sums

end Cert.KernelIdeal.Hand
end
-- ==== Proof.Run.lean ====
module

public import proofs.«01_k».proof.Proof.Pieces

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise

variable {F : FTy → Type} [FloatOps F]

local notation "𝕄" => MT nD τ sig Unit (Elt F) ℕ (UR sig nD τ) ℕ

set_option sl_exec.squeezeSlice true
set_option sl_exec.resultNames true in
/-- One grid point: from the blocks and scratch contents it finds, the body ends with the contents that the value functions state, its input blocks unchanged. -/
theorem run (c : Dev nD) (i : grid0.Coords)
    (M2 : Memref sig .tc .vmem S128x896 .f32) (h2 : M2.IsWhole) (M3 : Memref sig .tc .vmem S1x2x448x128 .i8) (h3 : M3.IsWhole)
    (M4 : Memref sig .tc .vmem S2x8x256 .bf16) (h4 : M4.IsWhole) (M5 : Memref sig .tc .vmem S4x128 .f32) (h5 : M5.IsWhole)
    (M6 : Memref sig .tc .vmem S512x896 .f32) (h6 : M6.IsWhole) (M7 : Memref sig .tc .vmem S128x128 .f32) (h7 : M7.IsWhole)
    (M8 : Memref sig .tc .vmem S128x896 .bf16) (h8 : M8.IsWhole) (M9 : Memref sig .tc .vmem S4x896x512 .bf16) (h9 : M9.IsWhole)
    (M10 : Memref sig .tc .vmem S2x4x128x128 .f32) (h10 : M10.IsWhole) (M11 : Memref sig .tc .vmem S4x448x128 .i32) (h11 : M11.IsWhole)
    (M12 : Memref sig .tc .vmem S2x2x8x128 .f32) (h12 : M12.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9) (f10 : Bf (F := F) c M10) (f11 : Bf (F := F) c M11)
    (f12 : Bf (F := F) c M12)
    (E : Set ℕ) (Q : PUnit → sProp 𝕄) :
    iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12
      ∗ (∀ g7 g8 g9 g10 g11 g12, ⌜M9.view.read (Elt F) g9 = nH i (M6.view.read (Elt F) f6) (M9.view.read (Elt F) f9)
            ∧ M11.view.read (Elt F) g11 = nIdx i (M3.view.read (Elt F) f3) (M11.view.read (Elt F) f11)
            ∧ M12.view.read (Elt F) g12 = nTab i (M4.view.read (Elt F) f4) (M12.view.read (Elt F) f12)
            ∧ M7.view.read (Elt F) g7 = oP i (nSum i (M10.view.read (Elt F) f10))
            ∧ M8.view.read (Elt F) g8 = rv i (M2.view.read (Elt F) f2) (M5.view.read (Elt F) f5) (M11.view.read (Elt F) g11) (M12.view.read (Elt F) g12)
            ∧ M10.view.read (Elt F) g10 = oSum i (nSum i (M10.view.read (Elt F) f10)) (dot (M8.view.read (Elt F) g8) (hMat (M9.view.read (Elt F) g9) (stepOf i)))⌝
          -∗ (pt c M2 f2 ∗ pt c M3 f3 ∗ pt c M4 f4 ∗ pt c M5 f5 ∗ pt c M6 f6 ∗ pt c M7 g7 ∗ pt c M8 g8 ∗ pt c M9 g9 ∗ pt c M10 g10 ∗ pt c M11 g11 ∗ pt c M12 g12)
          -∗ Q ⟨⟩))
    ⊢ wp frame (wpE (defs₀ (F := F)) Variants.none c none) E
        (cc0_aqlm_scores i M2 h2 M3 h3 M4 h4 M5 h5 M6 h6 M7 h7 M8 h8 M9 h9 M10 h10 M11 h11 M12 h12) Q := by
  iintro ⟨H2, H3, H4, H5, H6, H7, H8, H9, H10, H11, H12, Hk⟩
  unfold cc0_aqlm_scores k0_part137
  rw [wp_bind, wp_bind]
  iapply (prep c i M2 h2 M3 h3 M4 h4 M5 h5 M6 h6 M7 h7 M8 h8 M9 h9 M10 h10 M11 h11 M12 h12 f3 f4 f6 f9 f10 f11 f12 E _)
  isplitl [H3]; iexact H3
  isplitl [H4]; iexact H4
  isplitl [H6]; iexact H6
  isplitl [H9]; iexact H9
  isplitl [H10]; iexact H10
  isplitl [H11]; iexact H11
  isplitl [H12]; iexact H12
  iintro %g9 %g10 %g11 %g12 %r %hr ⟨H3, H4, H6, H9, H10, H11, H12⟩
  obtain ⟨e9, e10, e11, e12, er⟩ := hr
  subst er
  rw [← wp_bind]
  sl_exec_parts
  sl_step
  iapply Hk $$ %(M7.view.writes (Elt F) f7 [⟨Rect.unit (s := S128x128) ![0, 0] S128x128.size inb_S128x128_S128x128_0_0,
      shapeCast S128x128 (View.readAt (Elt F) M10.view (Rect.unit (s := S2x4x128x128) (k0_off2 i) S1x1x128x128.size (k0_off2_inb i)).toLoadRect g10) shapeCasts_S1x1x128x128_S128x128⟩])
    %(M8.view.writes (Elt F) f8 (H8F c i M2 M5 M11 M12 f2 f5 g11 g12))
    %g9
    %(M10.view.writes (Elt F) g10 (H10F c i M9 M10 g9 g10 (M8.view.readCov (H8F c i M2 M5 M11 M12 f2 f5 g11 g12) (Rect.unit (s := S128x896) ![0, 0] S128x896.size inb_S128x896_S128x896_0_0).toLoadRect)))
    %g11 %g12 [] [H2 H3 H4 H5 H6 H7 H8 H9 H10 H11 H12]
  · ipureintro
    refine ⟨e9, e11, e12, ?_, read_r c i M2 M5 M11 M12 f2 f5 g11 g12 M8 f8, ?_⟩
    · rw [← e10]
      exact read_p c i M7 M10 f7 g10
    · rw [← e10, read_r, readCov_r]
      exact read_sums c i M9 M10 g9 g10 _
  · isplitl [H2]; iexact H2
    isplitl [H3]; iexact H3
    isplitl [H4]; iexact H4
    isplitl [H5]; iexact H5
    isplitl [H6]; iexact H6
    isplitl [H7]; iexact H7
    isplitl [H8]; iexact H8
    isplitl [H9]; iexact H9
    isplitl [H10]; iexact H10
    isplitl [H11]; iexact H11
    iexact H12

end Cert.KernelIdeal.Hand
end
-- ==== Proof.State.lean ====
module

public import proofs.«01_k».proof.Proof.Words

@[expose] public section

noncomputable section

namespace Cert.KernelIdeal.Hand

open Cert.KernelIdeal Cert.KernelIdeal.Gen
open Idealize.ShloMosaic
open Idealize.ShloMosaic.TcCoe Idealize.ShloMosaic.Tactic
open Idealize.ShloMosaic.Pointwise

variable {F : FTy → Type} [FloatOps F]

/-! ## What the grid points build up

Point `t` is column block `t % 4` of tile `t / 4`; `X2` … `X6` are the blocks the points read. -/

/-- Point `t` belongs to tile `t / 4`. -/
theorem co0 : ∀ t : Fin grid0.N, (grid0.coords t 0).val = t.val / 4 := by decide +kernel
/-- Point `t` is the tile's step `t % 4`. -/
theorem co1 : ∀ t : Fin grid0.N, (grid0.coords t 1).val = t.val % 4 := by decide +kernel

/-- Point number `n`. -/
def pt' (n : ℕ) : Fin grid0.N := ⟨min n 147, lt_of_lt_of_eq (by omega : min n 147 < 148) (by decide +kernel)⟩

/-- There are 148 points. -/
theorem lt148 (t : Fin grid0.N) : t.val < 148 := lt_of_lt_of_eq t.isLt (by decide +kernel)
/-- The point with the number of a point is that point. -/
theorem pt'_val (t : Fin grid0.N) (n : ℕ) (h : n = t.val) : pt' n = t := by
  have := lt148 t
  exact Fin.ext (show min n 147 = t.val by omega)

section State
variable (X2 : Fin grid0.N → Vec F S128x896 .f32) (X3 : Fin grid0.N → Vec F S1x2x448x128 .i8) (X4 : Fin grid0.N → Vec F S2x8x256 .bf16)
  (X5 : Fin grid0.N → Vec F S4x128 .f32) (X6 : Fin grid0.N → Vec F S512x896 .f32)

/-- The codebook tables. -/
def TAB : Vec F S2x2x8x128 .f32 := mkTab (X4 (pt' 0))
/-- The index rows of a tile. -/
def IDX (i : ℕ) : Vec F S4x448x128 .i32 := mkIdx (X3 (pt' (4 * i)))
/-- A column block of the rounded `h`. -/
def HM (k : ℕ) : Vec F S896x512 .bf16 := fun j => mkH (X6 (pt' k)) (j 0) (j 1)
/-- The rounded remainder block of a point. -/
def RB (t : Fin grid0.N) : Vec F S128x896 .bf16 := rv (grid0.coords t) (X2 t) (X5 t) (IDX X3 (t.val / 4)) (TAB X4)
/-- The product of a point. -/
def DD (t : Fin grid0.N) : Vec F S128x512 .f32 := dot (RB X2 X3 X4 X5 t) (HM X6 (stepOf (grid0.coords t)).val)
/-- The running sum of a tile after `n` of its points. -/
def PS (i : ℕ) : ℕ → Fin 4 → Fin 128 → Fin 128 → F .f32
  | 0 => fun _ _ _ => zro
  | n + 1 => fun b o l => FloatOps.addf (PS i n b o l) (DD X2 X3 X4 X5 X6 (pt' (4 * i + n)) (ix2 o ⟨128 * b.val + l.val, by omega⟩))
/-- What a point leaves in the output block of the products: the finished sum of the tile before. -/
def OB (t : Fin grid0.N) : Vec F S128x128 .f32 := fun j =>
  if t.val / 4 = 0 then zro else PS X2 X3 X4 X5 X6 (t.val / 4 - 1) 4 (colOf (grid0.coords t)) (j 0) (j 1)

/-- What the scratch holds before point `n`. -/
structure Inv (n : ℕ) (x9 : Vec F S4x896x512 .bf16) (x10 : Vec F S2x4x128x128 .f32) (x11 : Vec F S4x448x128 .i32) (x12 : Vec F S2x2x8x128 .f32) : Prop where
  tab : 1 ≤ n → x12 = TAB X4
  idx : n % 4 ≠ 0 → x11 = IDX X3 (n / 4)
  h : ∀ k : Fin 4, k.val < n → ∀ d e, x9 (ix3 k d e) = HM X6 k.val (ix2 d e)
  cur : n % 4 ≠ 0 → ∀ a : Fin 2, a.val = n / 4 % 2 → ∀ b o l, x10 (ix4 a b o l) = PS X2 X3 X4 X5 X6 (n / 4) (n % 4) b o l
  old : 1 ≤ n → ∀ a : Fin 2, a.val = 1 - n / 4 % 2 → ∀ b o l, x10 (ix4 a b o l) = if n / 4 = 0 then zro else PS X2 X3 X4 X5 X6 (n / 4 - 1) 4 b o l

/-- Before the first point nothing is asked. -/
theorem inv_zero (x9 x10 x11 x12) : Inv X2 X3 X4 X5 X6 0 x9 x10 x11 x12 :=
  ⟨fun h => absurd h (by omega), fun h => absurd rfl h, fun k h => absurd h (by omega), fun h => absurd rfl h, fun h => absurd h (by omega)⟩

variable {X2 X3 X4 X5 X6}

/-- After its preparation a point finds the codebook tables. -/
theorem tab_step (t : Fin grid0.N) (x9 x10 x11 x12) (hI : Inv X2 X3 X4 X5 X6 t.val x9 x10 x11 x12) : nTab (grid0.coords t) (X4 t) x12 = TAB X4 := by
  unfold nTab
  rw [co0, co1]
  by_cases h : t.val = 0
  · rw [if_pos (by omega)]
    unfold TAB
    rw [pt'_val t 0 h.symm]
  · rw [if_neg (by omega)]
    exact hI.tab (by omega)

/-- After its preparation a point finds its tile's index rows. -/
theorem idx_step (t : Fin grid0.N) (x9 x10 x11 x12) (hI : Inv X2 X3 X4 X5 X6 t.val x9 x10 x11 x12) : nIdx (grid0.coords t) (X3 t) x11 = IDX X3 (t.val / 4) := by
  unfold nIdx
  rw [co1]
  by_cases h : t.val % 4 = 0
  · rw [if_pos h]
    unfold IDX
    rw [pt'_val t _ (by omega)]
  · rw [if_neg h]
    exact hI.idx h

/-- After its preparation a point finds every column block of the activations that has been loaded so far. -/
theorem h_step (t : Fin grid0.N) (x9 x10 x11 x12) (hI : Inv X2 X3 X4 X5 X6 t.val x9 x10 x11 x12) (k : Fin 4) (hk : k.val < t.val + 1) (d e) :
    nH (grid0.coords t) (X6 t) x9 (ix3 k d e) = HM X6 k.val (ix2 d e) := by
  unfold nH
  rw [co0, co1]
  by_cases h : t.val / 4 = 0 ∧ k.val = t.val % 4
  · refine (if_pos h).trans ?_
    unfold HM
    rw [pt'_val t _ (by omega)]
    rfl
  · refine (if_neg h).trans ?_
    exact hI.h k (by omega) d e

/-- A point works on a column block that has been loaded. -/
theorem step_lt (t : Fin grid0.N) : (stepOf (grid0.coords t)).val < t.val + 1 := by
  unfold stepOf
  have h0 := co0 t
  have h1 := co1 t
  split
  · show (grid0.coords t 1).val < _
    omega
  · show 3 < _
    omega

/-- The column block of the activations that a point multiplies by. -/
theorem mat_step (t : Fin grid0.N) (x9 x10 x11 x12) (hI : Inv X2 X3 X4 X5 X6 t.val x9 x10 x11 x12) :
    hMat (nH (grid0.coords t) (X6 t) x9) (stepOf (grid0.coords t)) = HM X6 (stepOf (grid0.coords t)).val := by
  funext j
  obtain ⟨d, e, rfl⟩ : ∃ (d : Fin 896) (e : Fin 512), j = ix2 d e := ⟨j 0, j 1, eq_ix2 j⟩
  exact h_step t x9 x10 x11 x12 hI (stepOf (grid0.coords t)) (step_lt t) d e

/-- The other slot holds the finished sums of the tile before. -/
theorem old_step (t : Fin grid0.N) (x9 x10 x11 x12) (hI : Inv X2 X3 X4 X5 X6 t.val x9 x10 x11 x12) (a : Fin 2) (ha : a.val = 1 - t.val / 4 % 2) (b o l) :
    nSum (grid0.coords t) x10 (ix4 a b o l) = if t.val / 4 = 0 then zro else PS X2 X3 X4 X5 X6 (t.val / 4 - 1) 4 b o l := by
  unfold nSum
  rw [co0, co1]
  by_cases h : t.val = 0
  · rw [if_pos (by omega), if_pos (by omega)]
  · rw [if_neg (by omega)]
    exact hI.old (by omega) a ha b o l

/-- The block of products that a point writes is the one stated. -/
theorem out_step (t : Fin grid0.N) (x9 x10 x11 x12) (hI : Inv X2 X3 X4 X5 X6 t.val x9 x10 x11 x12) : oP (grid0.coords t) (nSum (grid0.coords t) x10) = OB X2 X3 X4 X5 X6 t := by
  funext j
  have h0 := co0 t
  exact old_step t x9 x10 x11 x12 hI ⟨1 - (grid0.coords t 0).val % 2, by omega⟩ (by show 1 - (grid0.coords t 0).val % 2 = _; rw [h0]) _ _ _

/-- A point carries the invariant of the scratch to the next point. -/
theorem inv_step (t : Fin grid0.N) (x9 x10 x11 x12) (hI : Inv X2 X3 X4 X5 X6 t.val x9 x10 x11 x12) :
    Inv X2 X3 X4 X5 X6 (t.val + 1) (nH (grid0.coords t) (X6 t) x9) (oSum (grid0.coords t) (nSum (grid0.coords t) x10) (DD X2 X3 X4 X5 X6 t))
      (nIdx (grid0.coords t) (X3 t) x11) (nTab (grid0.coords t) (X4 t) x12) := by
  have h0 := co0 t
  have h1 := co1 t
  have hcur : ∀ a : Fin 2, a.val = t.val / 4 % 2 → ∀ b o l, oSum (grid0.coords t) (nSum (grid0.coords t) x10) (DD X2 X3 X4 X5 X6 t) (ix4 a b o l)
      = PS X2 X3 X4 X5 X6 (t.val / 4) (t.val % 4 + 1) b o l := by
    intro a ha b o l
    unfold oSum
    rw [h0, h1]
    refine (if_pos ha).trans ?_
    show FloatOps.addf _ _ = FloatOps.addf _ _
    rw [pt'_val t _ (by omega)]
    refine congrArg₂ _ ?_ rfl
    by_cases hz : t.val % 4 = 0
    · rw [if_pos hz, hz]
      rfl
    · rw [if_neg hz]
      unfold nSum
      rw [h0, h1, if_neg (by omega)]
      exact hI.cur hz a ha b o l
  refine ⟨fun _ => tab_step t x9 x10 x11 x12 hI, fun h => ?_, fun k hk d e => h_step t x9 x10 x11 x12 hI k hk d e, fun h a ha b o l => ?_, fun _ a ha b o l => ?_⟩
  · rw [idx_step t x9 x10 x11 x12 hI]
    exact congrArg _ (by omega)
  · have e := hcur a (by omega) b o l
    rw [show (t.val + 1) / 4 = t.val / 4 by omega, show (t.val + 1) % 4 = t.val % 4 + 1 by omega]
    exact e
  · by_cases hl : t.val % 4 = 3
    · have e := hcur a (by omega) b o l
      rw [hl] at e
      rw [if_neg (by omega), show (t.val + 1) / 4 - 1 = t.val / 4 by omega]
      exact e
    · rw [show (t.val + 1) / 4 = t.val / 4 by omega]
      refine Eq.trans ?_ (old_step t x9 x10 x11 x12 hI a (by omega) b o l)
      unfold oSum
      rw [h0]
      exact if_neg (show ¬ a.val = t.val / 4 % 2 by omega)

end State

end Cert.KernelIdeal.Hand
end
-- ==== Proof.Body.lean ====
module

public import proofs.«01_k».proof.Proof.Run
public import proofs.«01_k».proof.Proof.State
public import proofs.«01_k».proof.Proof.Gen.KernelIdeal.Frame
public import Idealize.ShloMosaic.Lib.Pipeline.Frame

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks the points read -/

/-- The block of weights a point reads. -/
abbrev B2 (c : Dev nD) : Fin grid0.N → Vec F S128x896 .f32 := fun t => iblk m c 0 t
/-- The block of codes a point reads. -/
abbrev B3 (c : Dev nD) : Fin grid0.N → Vec F S1x2x448x128 .i8 := fun t => iblk m c 1 t
/-- The block of codebooks a point reads. -/
abbrev B4 (c : Dev nD) : Fin grid0.N → Vec F S2x8x256 .bf16 := fun t => iblk m c 2 t
/-- The block of scales a point reads. -/
abbrev B5 (c : Dev nD) : Fin grid0.N → Vec F S4x128 .f32 := fun t => iblk m c 3 t
/-- The block of activations a point reads. -/
abbrev B6 (c : Dev nD) : Fin grid0.N → Vec F S512x896 .f32 := fun t => iblk m c 4 t

/-! ## The proof data -/

/-- The scratch of the rounded activations. -/
abbrev sc9 : Memref sig .tc .vmem S4x896x512 .bf16 := Memref.whole cc0_scratch0
/-- The scratch of the running sums. -/
abbrev sc10 : Memref sig .tc .vmem S2x4x128x128 .f32 := Memref.whole cc0_scratch1
/-- The scratch of the index rows. -/
abbrev sc11 : Memref sig .tc .vmem S4x448x128 .i32 := Memref.whole cc0_scratch2
/-- The scratch of the codebook tables. -/
abbrev sc12 : Memref sig .tc .vmem S2x2x8x128 .f32 := Memref.whole cc0_scratch3

/-- The invariant before point `n`: the four scratch buffers, of which `Inv` tells what is known, and the generator register. -/
def Phi (c : Dev nD) (n : ℕ) : sProp 𝕄 :=
  iprop(∃ (f9 : Bf (F := F) c sc9) (f10 : Bf (F := F) c sc10) (f11 : Bf (F := F) c sc11) (f12 : Bf (F := F) c sc12),
    ⌜Inv (B2 m c) (B3 m c) (B4 m c) (B5 m c) (B6 m c) n (sc9.view.read (Elt F) f9) (sc10.view.read (Elt F) f10) (sc11.view.read (Elt F) f11) (sc12.view.read (Elt F) f12)⌝
    ∗ pt c sc9 f9 ∗ pt c sc10 f10 ∗ pt c sc11 f11 ∗ pt c sc12 f12 ∗ (∃ r, prngReg c r))

/-- The proof data on core `c`: each array as the region finds it; the input blocks left in place, the output blocks the products
    of the tile before and the rounded remainder; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => OB (B2 m c) (B3 m c) (B4 m c) (B5 m c) (B6 m c) t
    | ⟨6, _⟩ => RB (B2 m c) (B3 m c) (B4 m c) (B5 m c) t
    | ⟨n + 7, h⟩ => absurd (show n + 7 < 7 from h) (by omega)
  Φ t := Phi m c t.val
  q _ := fullShare
  owed _ := 0

/-- Each array begins as the region finds it. -/
theorem A_eq (c : Dev nD) (w : Fin cfg0.W) : (dats m 0 c).A w = V m c (Pipeline.arrRef spec0 w) := by dsimp only [dats]

/-! ## The body at a point -/

/-- What the body is handed. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The weight block is in place before the body. -/
theorem bef0 (c : Dev nD) (t : Fin cfg0.N) (d) : (dats m 0 c).before 0 t d = B2 m c t := before0_0_of m (dats m 0 c) (A_eq m c 0) (fun _ => rfl) t d
/-- The code block is in place before the body. -/
theorem bef1 (c : Dev nD) (t : Fin cfg0.N) (d) : (dats m 0 c).before 1 t d = B3 m c t := before0_1_of m (dats m 0 c) (A_eq m c 1) (fun _ => rfl) t d
/-- The codebook block is in place before the body. -/
theorem bef2 (c : Dev nD) (t : Fin cfg0.N) (d) : (dats m 0 c).before 2 t d = B4 m c t := before0_2_of m (dats m 0 c) (A_eq m c 2) (fun _ => rfl) t d
/-- The scale block is in place before the body. -/
theorem bef3 (c : Dev nD) (t : Fin cfg0.N) (d) : (dats m 0 c).before 3 t d = B5 m c t := before0_3_of m (dats m 0 c) (A_eq m c 3) (fun _ => rfl) t d
/-- The activation block is in place before the body. -/
theorem bef4 (c : Dev nD) (t : Fin cfg0.N) (d) : (dats m 0 c).before 4 t d = B6 m c t := before0_4_of m (dats m 0 c) (A_eq m c 4) (fun _ => rfl) t d

/-- A whole memref owned at a value: its buffer at some contents that read as the value. -/
theorem owns_pt (c : Dev nD) {sp : Space} {S : Shape} {e : EltTy} (M : Memref sig .tc sp S e) (h : M.IsWhole) (d : Vec F S e) :
    (owns (c : Thread nD τ) M fullShare d : sProp 𝕄) = iprop(∃ f : Bf (F := F) c M, ⌜M.view.read (Elt F) f = d⌝ ∗ pt c M f) := by
  unfold owns
  rw [h.set_eq_univ]

/-- The body at a point: `run` on the blocks and the scratch the invariant hands it, the invariant closed by `inv_step`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.castSucc = Phi m c t.val from rfl, show (dats m 0 c).Φ t.succ = Phi m c (t.val + 1) from rfl,
    show (dats m 0 c).after 0 t = B2 m c t from rfl, show (dats m 0 c).after 1 t = B3 m c t from rfl, show (dats m 0 c).after 2 t = B4 m c t from rfl,
    show (dats m 0 c).after 3 t = B5 m c t from rfl, show (dats m 0 c).after 4 t = B6 m c t from rfl,
    show (dats m 0 c).after 5 t = OB (B2 m c) (B3 m c) (B4 m c) (B5 m c) (B6 m c) t from rfl,
    show (dats m 0 c).after 6 t = RB (B2 m c) (B3 m c) (B4 m c) (B5 m c) t from rfl]
  simp only [bef0, bef1, bef2, bef3, bef4]
  unfold Phi
  simp only [owns_pt c (st0_0 t) (hstage0_0 ((cfg0.slots t 0).cast nbuf0_0)), owns_pt c (st0_1 t) (hstage0_1 ((cfg0.slots t 1).cast nbuf0_1)),
    owns_pt c (st0_2 t) (hstage0_2 ((cfg0.slots t 2).cast nbuf0_2)), owns_pt c (st0_3 t) (hstage0_3 ((cfg0.slots t 3).cast nbuf0_3)),
    owns_pt c (st0_4 t) (hstage0_4 ((cfg0.slots t 4).cast nbuf0_4)), owns_pt c (st0_5 t) (hstage0_5 ((cfg0.slots t 5).cast nbuf0_5)),
    owns_pt c (st0_6 t) (hstage0_6 ((cfg0.slots t 6).cast nbuf0_6))]
  iintro ⟨⟨%f9, %f10, %f11, %f12, %hI, H9, H10, H11, H12, Hg⟩, HO, ⟨%d2, %f2, %e2, H2⟩, ⟨%d3, %f3, %e3, H3⟩, ⟨%d4, %f4, %e4, H4⟩,
    ⟨%d5, %f5, %e5, H5⟩, ⟨%d6, %f6, %e6, H6⟩, ⟨%d7, %f7, -, H7⟩, ⟨%d8, %f8, -, H8⟩⟩
  iapply (run c (grid0.coords t) (st0_0 t) _ (st0_1 t) _ (st0_2 t) _ (st0_3 t) _ (st0_4 t) _ (st0_5 t) _ (st0_6 t) _ sc9 _ sc10 _ sc11 _ sc12 _
    f2 f3 f4 f5 f6 f7 f8 f9 f10 f11 f12 Set.univ _)
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexact H11
  isplitl [H12]; iexact H12
  iintro %g7 %g8 %g9 %g10 %g11 %g12 %hr ⟨H2, H3, H4, H5, H6, H7, H8, H9, H10, H11, H12⟩
  obtain ⟨r9, r11, r12, r7, r8, r10⟩ := hr
  rw [e6] at r9
  rw [e3] at r11
  rw [e4] at r12
  rw [out_step t _ _ _ _ hI] at r7
  have r8' : (st0_6 t).view.read (Elt F) g8 = RB (B2 m c) (B3 m c) (B4 m c) (B5 m c) t := by
    rw [r8, r11, r12, e2, e5, idx_step t _ _ _ _ hI, tab_step t _ _ _ _ hI]
    rfl
  rw [r8', r9, mat_step t _ _ _ _ hI] at r10
  isplitl [H9 H10 H11 H12 Hg]
  · iexists g9, g10, g11, g12
    isplitr
    · ipureintro
      rw [r9, r10, r11, r12]
      exact inv_step t _ _ _ _ hI
    · isplitl [H9]; iexact H9
      isplitl [H10]; iexact H10
      isplitl [H11]; iexact H11
      isplitl [H12]; iexact H12
      iexact Hg
  isplitl [HO]; iexact HO
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists g7; isplitr; · ipureintro; exact r7
    iexact H7
  iexists g8; isplitr; · ipureintro; exact r8'
  iexact H8

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- The scratch at entry satisfies the invariant of the first point. -/
theorem hin (c : Dev nD) : Pipeline.ΦA spec0 c ⊢ (dats (F := F) m 0 c).Φ 0 := by
  rw [show (dats m 0 c).Φ 0 = Phi m c 0 from rfl]
  unfold Pipeline.ΦA Phi
  rw [scopedRest0_eq]
  iintro ⟨⟨⟨%f9, H9⟩, ⟨%f10, H10⟩, ⟨%f11, H11⟩, ⟨%f12, H12⟩⟩, Hg⟩
  iexists f9, f10, f11, f12
  isplitr
  · ipureintro
    exact inv_zero _ _ _ _ _ _ _ _ _
  isplitl [H9]; iexact H9
  isplitl [H10]; iexact H10
  isplitl [H11]; iexact H11
  isplitl [H12]; iexact H12
  iexact Hg

/-- The invariant after the last point gives the scratch back. -/
theorem hout (c : Dev nD) : (dats (F := F) m 0 c).Φ (Fin.last cfg0.N) ⊢ Pipeline.ΦA spec0 c := by
  rw [show (dats m 0 c).Φ (Fin.last cfg0.N) = Phi m c cfg0.N from rfl]
  unfold Pipeline.ΦA Phi
  rw [scopedRest0_eq]
  iintro ⟨%f9, %f10, %f11, %f12, -, H9, H10, H11, H12, Hg⟩
  isplitl [H9 H10 H11 H12]
  · isplitl [H9]
    · iexists f9; iexact H9
    isplitl [H10]
    · iexists f10; iexact H10
    isplitl [H11]
    · iexists f11; iexact H11
    iexists f12; iexact H12
  iexact Hg

set_option backward.isDefEq.respectTransparency.types false in
/-- From any memory with zero counters every run of the program ends, each window's array as the proof data says, every other
    buffer as the region found it, and every counter at zero again. -/
theorem run_main :
    θ_run defs (onTc (τ := τ) (main (F := F))) (s₀ m ρ)
      (fun r => Pipeline.FramePost cfgs (dats m) 0 (V m) r ∧ r.2.sem = fun _ => 0) :=
  Pipeline.θ_run_frame_track cfgs (dats m) (0 : Fin 1) launch0 defs₀ Variants.none m ρ main
    (Q' := fun r => Pipeline.FramePost cfgs (dats m) 0 (V m) r ∧ r.2.sem = fun _ => 0)
    (hbody := fun c => (body_obligation m c).loose) (hshare := fun c => (dats m 0 c).share_full fun _ => rfl)
    (howed := fun _ _ => rfl) (V := V m) (hmain := hmain m Variants.none) (hA := A_eq m)
    (hin := hin m) (hout := hout m)

/-- The five argument arrays end as they began. -/
theorem args_of {r} (h : Pipeline.FramePost cfgs (dats (F := F) m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).1 3).trans (((dats m 0 c).arrAt_in 3 rfl _).trans ((A_eq m c 3).trans (V_main_arg3 m c))),
   ((h c).2 main_arg4 (Pipeline.mem_restRefs_of main_arg4 (by decide) (by decide))).trans (V_main_arg4 m c)⟩

end Cert.KernelIdeal.Hand
end
-- ==== Proof.KWords.lean ====
module

public import proofs.«01_k».proof.Proof.Gen.Kernel.Skeleton
public import Idealize.ShloMosaic.Lib.Tactic
public import Idealize.ShloMosaic.Lib.Pipeline.Kit
public import Idealize.ShloMosaic.Lib.Pointwise

@[expose] public section

noncomputable section

namespace Cert.Kernel.Hand

open Cert.Kernel Cert.Kernel.Gen
open Idealize.ShloMosaic
open Idealize.ShloMosaic.TcCoe Idealize.ShloMosaic.Tactic
open Idealize.ShloMosaic.Pointwise

variable {F : FTy → Type} [FloatOps F]

/-! ## The offsets and the conditions the kernel computes, in closed form -/

/-- Where the rounded activations of a first-tile point go: their own column block. -/
theorem off1_eq : ∀ i : grid0.Coords, k0_off1 i = ![(i 1).val, 0, 0] := by decide +kernel
/-- Where a point reads the finished sums: the other slot, its own column block. -/
theorem off2_eq : ∀ i : grid0.Coords, k0_off2 i = ![1 - (i 0).val % 2, (i 1).val, 0, 0] := by decide +kernel
/-- Where a point reads the scales: the row of its tile's batch. -/
theorem off3_eq : ∀ i : grid0.Coords, k0_off3 i = ![(min (i 0).val 35) / 9, 0] := by decide +kernel
/-- The index row of a group: 112 groups per column block, 16 per piece. -/
theorem off4_eq : ∀ i : grid0.Coords, ∀ (c : Fin 7) (t : Fin 16), k0_off4 i (BitVec.ofNat 32 c.val) (BitVec.ofNat 32 t.val)
    = ![112 * (if (i 0).val < 36 then (i 1).val else 3) + 16 * c.val + t.val, 0] := by decide +kernel
/-- Where a point reads the rounded activations: the column block it works on. -/
theorem off5_eq : ∀ i : grid0.Coords, k0_off5 i = ![if (i 0).val < 36 then (i 1).val else 3, 0, 0] := by decide +kernel
/-- The first stored column block of the running sum, in the tile's slot. -/
theorem off6_eq : ∀ i : grid0.Coords, k0_off6 i = ![(i 0).val % 2, 0, 0, 0] := by decide +kernel
/-- The second stored column block of the running sum, in the tile's slot. -/
theorem off7_eq : ∀ i : grid0.Coords, k0_off7 i = ![(i 0).val % 2, 1, 0, 0] := by decide +kernel
/-- The third stored column block of the running sum, in the tile's slot. -/
theorem off8_eq : ∀ i : grid0.Coords, k0_off8 i = ![(i 0).val % 2, 2, 0, 0] := by decide +kernel
/-- The fourth stored column block of the running sum, in the tile's slot. -/
theorem off9_eq : ∀ i : grid0.Coords, k0_off9 i = ![(i 0).val % 2, 3, 0, 0] := by decide +kernel

/-- The word of the first conditional: the first grid point. -/
abbrev cond1 (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32
/-- The word of the third conditional: the first column block of a tile. -/
abbrev cond3 (i : grid0.Coords) : BitVec 1 :=
  Scalar.cmpi .ne (Scalar.extui (Scalar.cmpi .eq (BitVec.ofNat 32 (i 1).val) 0#32) : BitVec 32) 0#32

/-- The first conditional runs at the first grid point only. -/
theorem cond1_iff : ∀ i : grid0.Coords, cond1 i = 1#1 ↔ (i 0).val = 0 ∧ (i 1).val = 0 := by decide +kernel
/-- The second conditional runs at the points of the first tile only. -/
theorem cond2_iff : ∀ i : grid0.Coords, k0_cond2 i = 1#1 ↔ (i 0).val = 0 := by decide +kernel
/-- The third conditional runs at the first column block of each tile only. -/
theorem cond3_iff : ∀ i : grid0.Coords, cond3 i = 1#1 ↔ (i 1).val = 0 := by decide +kernel
/-- The word that selects zero instead of the running sum. -/
theorem first_iff : ∀ i : grid0.Coords, Scalar.cmpi .eq (BitVec.ofNat 32 (i 1).val) 0#32 = 1#1 ↔ (i 1).val = 0 := by decide +kernel

/-- Closed forms of the offsets the run meets. -/
instance (i : grid0.Coords) : ClosedOff (k0_off2 i) := ⟨_, off2_eq i⟩
instance (i : grid0.Coords) : ClosedOff (k0_off5 i) := ⟨_, off5_eq i⟩
instance (i : grid0.Coords) : ClosedOff (k0_off6 i) := ⟨_, off6_eq i⟩
instance (i : grid0.Coords) : ClosedOff (k0_off7 i) := ⟨_, off7_eq i⟩
instance (i : grid0.Coords) : ClosedOff (k0_off8 i) := ⟨_, off8_eq i⟩
instance (i : grid0.Coords) : ClosedOff (k0_off9 i) := ⟨_, off9_eq i⟩

/-! ## What one grid point does, on values

`x3`, `x4`, `x6` … are the blocks the body reads, `x9` … `x12` the scratch contents it finds. -/

/-- The column block a point works on. -/
abbrev stepOf (i : grid0.Coords) : Fin 4 := if h : (i 0).val < 36 then ⟨(i 1).val, (i 1).isLt⟩ else 3
/-- The batch of the tile a point works on. -/
abbrev batchOf (i : grid0.Coords) : Fin 4 := ⟨min (i 0).val 35 / 9, by omega⟩
/-- The slot of the running sum. -/
abbrev slotOf (i : grid0.Coords) : Fin 2 := ⟨(i 0).val % 2, by omega⟩
/-- The column block the first pass stores and the output block number. -/
abbrev colOf (i : grid0.Coords) : Fin 4 := ⟨(i 1).val, (i 1).isLt⟩

/-- The two halves of each codebook, widened. -/
def mkTab (x4 : Vec F S2x8x256 .bf16) : Vec F S2x2x8x128 .f32 := fun j =>
  FloatOps.extf .f32 bitsLt_bf16_f32 (x4 (ix3 (j 0) (j 2) ⟨128 * (j 1).val + (j 3).val, by have := (j 1).isLt; have := (j 3).isLt; simp at *; omega⟩))
/-- A code as a 32-bit word. -/
def codeW (x3 : Vec F S1x2x448x128 .i8) (m : Fin 2) (g : Fin 448) (l : Fin 128) : BitVec 32 := (show BitVec 8 from x3 (ix4 0 m g l)).setWidth 32
/-- The prepared index rows: per codebook the lane in the half and the word that tells the half. -/
def mkIdx (x3 : Vec F S1x2x448x128 .i8) : Vec F S4x448x128 .i32 := fun j =>
  if (j 0).val % 2 = 0 then codeW (F := F) x3 ⟨(j 0).val / 2, by have := (j 0).isLt; simp at *; omega⟩ (j 1) (j 2) &&& 127#32
  else 16#32 - (IntOp.shrsi .vector (codeW (F := F) x3 ⟨(j 0).val / 2, by have := (j 0).isLt; simp at *; omega⟩ (j 1) (j 2)) 3#32 &&& 16#32)
/-- One column block of `h`, transposed and rounded. -/
def mkH (x6 : Vec F S512x896 .f32) (d : Fin 896) (n : Fin 512) : F .bf16 := FloatOps.truncf .bf16 bitsLt_bf16_f32 (x6 (ix2 n d))

/-- The zero the running sums start from. -/
def zro : F .f32 := Scalar.ofBits .f32 0x00000000#32

/-- The codebook tables after the point's preparation. -/
def nTab (i : grid0.Coords) (x4 : Vec F S2x8x256 .bf16) (x12 : Vec F S2x2x8x128 .f32) : Vec F S2x2x8x128 .f32 :=
  if (i 0).val = 0 ∧ (i 1).val = 0 then mkTab x4 else x12
/-- The running sums after the point's preparation. -/
def nSum (i : grid0.Coords) (x10 : Vec F S2x4x128x128 .f32) : Vec F S2x4x128x128 .f32 :=
  if (i 0).val = 0 ∧ (i 1).val = 0 then fun _ => zro else x10
/-- The rounded `h` after the point's preparation. -/
def nH (i : grid0.Coords) (x6 : Vec F S512x896 .f32) (x9 : Vec F S4x896x512 .bf16) : Vec F S4x896x512 .bf16 := fun j =>
  if (i 0).val = 0 ∧ (j 0).val = (i 1).val then mkH x6 (j 1) (j 2) else x9 j
/-- The index rows after the point's preparation. -/
def nIdx (i : grid0.Coords) (x3 : Vec F S1x2x448x128 .i8) (x11 : Vec F S4x448x128 .i32) : Vec F S4x448x128 .i32 :=
  if (i 1).val = 0 then mkIdx x3 else x11

/-- One codebook's entry for one row and one column of the tile. -/
def dec (x11 : Vec F S4x448x128 .i32) (x12 : Vec F S2x2x8x128 .f32) (m : Fin 2) (g : Fin 448) (e : Fin 8) (o : Fin 128) : F .f32 :=
  Scalar.select (IntOp.cmpi .eq (x11 (ix3 ⟨2 * m.val + 1, by omega⟩ g o)) 16#32)
    (x12 (ix4 m 0 e ⟨(show BitVec 32 from x11 (ix3 ⟨2 * m.val, by omega⟩ g o)).toNat % 128, Nat.mod_lt _ (by norm_num)⟩))
    (x12 (ix4 m 1 e ⟨(show BitVec 32 from x11 (ix3 ⟨2 * m.val, by omega⟩ g o)).toNat % 128, Nat.mod_lt _ (by norm_num)⟩))
/-- Scale times the sum of both codebooks' entries. -/
def dq (s : F .f32) (x11 : Vec F S4x448x128 .i32) (x12 : Vec F S2x2x8x128 .f32) (g : Fin 448) (e : Fin 8) (o : Fin 128) : F .f32 :=
  FloatOps.mulf s (FloatOps.addf (dec (F := F) x11 x12 0 g e o) (dec (F := F) x11 x12 1 g e o))
/-- The rounded remainder at one place of the block. -/
def rv (i : grid0.Coords) (x2 : Vec F S128x896 .f32) (x5 : Vec F S4x128 .f32) (x11 : Vec F S4x448x128 .i32) (x12 : Vec F S2x2x8x128 .f32) : Vec F S128x896 .bf16 := fun j =>
  FloatOps.truncf .bf16 bitsLt_bf16_f32 (FloatOps.subf (x2 j)
    (dq (x5 (ix2 (batchOf i) (j 0))) x11 x12
      ⟨112 * (stepOf i).val + (j 1).val / 8, by have := (stepOf i).isLt; have := (j 1).isLt; simp at *; omega⟩
      ⟨(j 1).val % 8, by omega⟩ (j 0)))
/-- One column block of the rounded `h` as a matrix. -/
def hMat (x9 : Vec F S4x896x512 .bf16) (k : Fin 4) : Vec F S896x512 .bf16 := fun j => x9 (ix3 k (j 0) (j 1))
/-- The product of the rounded remainder with a column block of `h`. -/
def dot (r : Vec F S128x896 .bf16) (h : Vec F S896x512 .bf16) : Vec F S128x512 .f32 :=
  matmul dot_S128x896_S896x512_S128x512_1_0_0_1_n_n none r h (constant S128x512 .f32 0x00000000#32)
/-- What the point leaves in the output block of the products. -/
def oP (i : grid0.Coords) (x10 : Vec F S2x4x128x128 .f32) : Vec F S128x128 .f32 := fun j =>
  x10 (ix4 ⟨1 - (i 0).val % 2, by omega⟩ (colOf i) (j 0) (j 1))
/-- The running sums after the point. -/
def oSum (i : grid0.Coords) (x10 : Vec F S2x4x128x128 .f32) (d : Vec F S128x512 .f32) : Vec F S2x4x128x128 .f32 := fun j =>
  if (j 0).val = (i 0).val % 2 then
    FloatOps.addf (if (i 1).val = 0 then zro else x10 j) (d (ix2 (j 2) ⟨128 * (j 1).val + (j 3).val, by have := (j 1).isLt; have := (j 3).isLt; simp at *; omega⟩))
  else x10 j

end Cert.Kernel.Hand
end
-- ==== Proof.KPrep.lean ====
module

public import proofs.«01_k».proof.Proof.KWords

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise

variable {F : FTy → Type} [FloatOps F]

local notation "𝕄" => MT nD τ sig Unit (Elt F) ℕ (UR sig nD τ) ℕ

/-- The contents of the buffer behind a memref. -/
abbrev Bf (c : Dev nD) {sp : Space} {S : Shape} {e : EltTy} (M : Memref sig .tc sp S e) : Type := Buf (Elt F) (M.view.loc (c : Thread nD τ))
/-- Full ownership of the buffer behind a memref. -/
abbrev pt (c : Dev nD) {sp : Space} {S : Shape} {e : EltTy} (M : Memref sig .tc sp S e) (f : Bf (F := F) c M) : sProp 𝕄 :=
  M.view.loc (c : Thread nD τ) ↦{fullShare} f

/-! ## The payloads of the preparation, at an index -/

/-- The stored lower half of the first codebook, at an index. -/
theorem pay10_at (x : Vec F S1x8x256 .bf16) (a b : Fin 1) (e : Fin 8) (l : Fin 128) :
    k0_pay10 x (ix4 a b e l) = FloatOps.extf .f32 bitsLt_bf16_f32 (x (ix3 0 e ⟨l.val, by omega⟩)) := by
  pointwise [k0_pay10, k0_pay9]
/-- The stored upper half of the first codebook, at an index. -/
theorem pay11_at (x : Vec F S1x8x256 .bf16) (a b : Fin 1) (e : Fin 8) (l : Fin 128) :
    k0_pay11 x (ix4 a b e l) = FloatOps.extf .f32 bitsLt_bf16_f32 (x (ix3 0 e ⟨128 + l.val, by omega⟩)) := by
  pointwise [k0_pay11, k0_pay9]
/-- The stored lower half of the second codebook, at an index. -/
theorem pay13_at (x : Vec F S1x8x256 .bf16) (a b : Fin 1) (e : Fin 8) (l : Fin 128) :
    k0_pay13 x (ix4 a b e l) = FloatOps.extf .f32 bitsLt_bf16_f32 (x (ix3 0 e ⟨l.val, by omega⟩)) := by
  pointwise [k0_pay13, k0_pay12]
/-- The stored upper half of the second codebook, at an index. -/
theorem pay14_at (x : Vec F S1x8x256 .bf16) (a b : Fin 1) (e : Fin 8) (l : Fin 128) :
    k0_pay14 x (ix4 a b e l) = FloatOps.extf .f32 bitsLt_bf16_f32 (x (ix3 0 e ⟨128 + l.val, by omega⟩)) := by
  pointwise [k0_pay14, k0_pay12]
/-- The running sums are cleared to zero. -/
theorem pay15_at (j) : k0_pay15 (F := F) j = zro := by
  pointwise [k0_pay15]
  rfl
/-- The stored activations, transposed and rounded, at an index. -/
theorem pay16_at (x : Vec F S512x896 .f32) (a : Fin 1) (d : Fin 896) (n : Fin 512) :
    k0_pay16 x (ix3 a d n) = mkH x d n := by
  pointwise [k0_pay16, mkH]
/-- The lanes of the first code, at an index. -/
theorem pay4_at (x : Vec F S1x2x448x128 .i8) (a : Fin 1) (g : Fin 448) (l : Fin 128) :
    k0_pay4 x (ix3 a g l) = codeW (F := F) x 0 g l &&& 127#32 := by
  pointwise [k0_pay4, k0_pay3, k0_pay2, codeW]
  rfl
/-- The words that tell the half of the first code, at an index. -/
theorem pay5_at (x : Vec F S1x2x448x128 .i8) (a : Fin 1) (g : Fin 448) (l : Fin 128) :
    k0_pay5 x (ix3 a g l) = 16#32 - (IntOp.shrsi .vector (codeW (F := F) x 0 g l) 3#32 &&& 16#32) := by
  pointwise [k0_pay5, k0_pay3, k0_pay2, codeW]
  rfl
/-- The lanes of the second code, at an index. -/
theorem pay7_at (x : Vec F S1x2x448x128 .i8) (a : Fin 1) (g : Fin 448) (l : Fin 128) :
    k0_pay7 x (ix3 a g l) = codeW (F := F) x 1 g l &&& 127#32 := by
  pointwise [k0_pay7, k0_pay6, k0_pay2, codeW]
  rfl
/-- The words that tell the half of the second code, at an index. -/
theorem pay17_at (x : Vec F S1x2x448x128 .i8) (a : Fin 1) (g : Fin 448) (l : Fin 128) :
    k0_pay17 (k0_pay8 x) (ix3 a g l) = 16#32 - (IntOp.shrsi .vector (codeW (F := F) x 1 g l) 3#32 &&& 16#32) := by
  pointwise [k0_pay17, k0_pay8, k0_pay6, k0_pay2, codeW]
  rfl

/-- An even index row holds the lanes of its code. -/
theorem mkIdx_even (x : Vec F S1x2x448x128 .i8) (k : Fin 4) (g : Fin 448) (l : Fin 128) (m : Fin 2) (h : k.val % 2 = 0) (hm : m.val = k.val / 2) :
    mkIdx x (ix3 k g l) = codeW (F := F) x m g l &&& 127#32 := by
  obtain ⟨m, hm'⟩ := m
  subst hm
  unfold mkIdx
  exact if_pos h
/-- An odd index row holds the words that tell the half of its code. -/
theorem mkIdx_odd (x : Vec F S1x2x448x128 .i8) (k : Fin 4) (g : Fin 448) (l : Fin 128) (m : Fin 2) (h : k.val % 2 = 1) (hm : m.val = k.val / 2) :
    mkIdx x (ix3 k g l) = 16#32 - (IntOp.shrsi .vector (codeW (F := F) x m g l) 3#32 &&& 16#32) := by
  obtain ⟨m, hm'⟩ := m
  subst hm
  unfold mkIdx
  exact if_neg (fun h0 : k.val % 2 = 0 => by omega)

/-! ## What the preparation's stores leave, read back -/

section Reads
variable (c : Dev nD)

/-- The four stores of the codebook halves. -/
abbrev tabPieces (M4 : Memref sig .tc .vmem S2x8x256 .bf16) (f4 : Bf (F := F) c M4) : List (View.Piece (Elt F) S2x2x8x128 .f32) :=
      [⟨Rect.unit (s := S2x2x8x128) ![1, 1, 0, 0] S1x1x8x128.size inb_S2x2x8x128_S1x1x8x128_1_1_0_0, k0_pay14 (View.readAt (Elt F) M4.view (Rect.unit (s := S2x8x256) ![1, 0, 0] S1x8x256.size inb_S2x8x256_S1x8x256_1_0_0).toLoadRect f4)⟩,
       ⟨Rect.unit (s := S2x2x8x128) ![1, 0, 0, 0] S1x1x8x128.size inb_S2x2x8x128_S1x1x8x128_1_0_0_0, k0_pay13 (View.readAt (Elt F) M4.view (Rect.unit (s := S2x8x256) ![1, 0, 0] S1x8x256.size inb_S2x8x256_S1x8x256_1_0_0).toLoadRect f4)⟩,
       ⟨Rect.unit (s := S2x2x8x128) ![0, 1, 0, 0] S1x1x8x128.size inb_S2x2x8x128_S1x1x8x128_0_1_0_0, k0_pay11 (View.readAt (Elt F) M4.view (Rect.unit (s := S2x8x256) ![0, 0, 0] S1x8x256.size inb_S2x8x256_S1x8x256_0_0_0).toLoadRect f4)⟩,
       ⟨Rect.unit (s := S2x2x8x128) ![0, 0, 0, 0] S1x1x8x128.size inb_S2x2x8x128_S1x1x8x128_0_0_0_0, k0_pay10 (View.readAt (Elt F) M4.view (Rect.unit (s := S2x8x256) ![0, 0, 0] S1x8x256.size inb_S2x8x256_S1x8x256_0_0_0).toLoadRect f4)⟩]

/-- The table buffer after the four halves are stored reads as the tables. -/
theorem read_tab (M4 : Memref sig .tc .vmem S2x8x256 .bf16) (M12 : Memref sig .tc .vmem S2x2x8x128 .f32) (f4 : Bf (F := F) c M4) (f12 : Bf (F := F) c M12) :
    M12.view.read (Elt F) (M12.view.writes (Elt F) f12
      (tabPieces c M4 f4))
    = mkTab (M4.view.read (Elt F) f4) := by
  funext y
  refine View.read_writes_apply_of_pieces _ _ (mkTab (M4.view.read (Elt F) f4)) _ ?_ y ?_
  swap
  · exact View.cover_of_tiled (s := S2x2x8x128) _ S1x1x8x128.size (by sl_kernel_rfl) y
  intro p hp
  simp only [List.mem_cons, List.not_mem_nil, _root_.or_false] at hp
  rcases hp with rfl | rfl | rfl | rfl <;> intro x <;>
    obtain ⟨a, b, e, l, rfl⟩ : ∃ (a b : Fin 1) (e : Fin 8) (l : Fin 128), x = ix4 a b e l := ⟨x 0, x 1, x 2, x 3, eq_ix4 x⟩
  · refine (pay14_at _ a b e l).trans ?_
    unfold mkTab
    rw [View.readAt_apply]
    refine congrArg _ (congrArg _ (funext fun d => Fin.ext ?_))
    fin_cases d <;> simp [Rect.emb_apply, LoadRect.idx_apply, ix3, ix4]
  · refine (pay13_at _ a b e l).trans ?_
    unfold mkTab
    rw [View.readAt_apply]
    refine congrArg _ (congrArg _ (funext fun d => Fin.ext ?_))
    fin_cases d <;> simp [Rect.emb_apply, LoadRect.idx_apply, ix3, ix4]
  · refine (pay11_at _ a b e l).trans ?_
    unfold mkTab
    rw [View.readAt_apply]
    refine congrArg _ (congrArg _ (funext fun d => Fin.ext ?_))
    fin_cases d <;> simp [Rect.emb_apply, LoadRect.idx_apply, ix3, ix4]
  · refine (pay10_at _ a b e l).trans ?_
    unfold mkTab
    rw [View.readAt_apply]
    refine congrArg _ (congrArg _ (funext fun d => Fin.ext ?_))
    fin_cases d <;> simp [Rect.emb_apply, LoadRect.idx_apply, ix3, ix4]

/-- The buffer of the running sums after it is cleared reads as zero. -/
theorem read_sum (M10 : Memref sig .tc .vmem S2x4x128x128 .f32) (f10 : Bf (F := F) c M10) :
    M10.view.read (Elt F) (M10.view.writes (Elt F) f10 [⟨Rect.unit (s := S2x4x128x128) ![0, 0, 0, 0] S2x4x128x128.size inb_S2x4x128x128_S2x4x128x128_0_0_0_0, k0_pay15⟩])
    = fun _ => zro := by
  funext y
  refine View.read_writes_apply_of_pieces (Val := Elt F) (e := .f32) _ _ (fun _ => (zro : F .f32)) _ ?_ y ?_
  swap
  · exact View.cover_of_tiled (s := S2x4x128x128) _ S2x4x128x128.size (by sl_kernel_rfl) y
  intro p hp
  simp only [List.mem_cons, List.not_mem_nil, _root_.or_false] at hp
  subst hp
  exact fun x => pay15_at x

/-- The load of the whole activation block reads the block. -/
theorem read_whole6 (M6 : Memref sig .tc .vmem S512x896 .f32) (f6 : Bf (F := F) c M6) :
    View.readAt (Elt F) M6.view (Rect.unit (s := S512x896) ![0, 0] S512x896.size inb_S512x896_S512x896_0_0).toLoadRect f6 = M6.view.read (Elt F) f6 := by
  funext x
  rw [View.readAt_apply]
  refine congrArg _ (funext fun d => Fin.ext ?_)
  fin_cases d <;> simp [LoadRect.idx_apply]

/-- The load of the whole code block reads the block. -/
theorem read_whole3 (M3 : Memref sig .tc .vmem S1x2x448x128 .i8) (f3 : Bf (F := F) c M3) :
    View.readAt (Elt F) M3.view (Rect.unit (s := S1x2x448x128) ![0, 0, 0, 0] S1x2x448x128.size inb_S1x2x448x128_S1x2x448x128_0_0_0_0).toLoadRect f3 = M3.view.read (Elt F) f3 := by
  funext x
  rw [View.readAt_apply]
  refine congrArg _ (funext fun d => Fin.ext ?_)
  fin_cases d <;> simp [LoadRect.idx_apply]

/-- The buffer of the rounded activations after one column block is stored: that block is new, the others are as before. -/
theorem read_h (i : grid0.Coords) (hc2 : (i 0).val = 0) (inb) (M6 : Memref sig .tc .vmem S512x896 .f32) (M9 : Memref sig .tc .vmem S4x896x512 .bf16)
    (f6 : Bf (F := F) c M6) (f9 : Bf (F := F) c M9) :
    M9.view.read (Elt F) (M9.view.writes (Elt F) f9
      [⟨Rect.unit (s := S4x896x512) (k0_off1 i) S1x896x512.size inb, k0_pay16 (View.readAt (Elt F) M6.view (Rect.unit (s := S512x896) ![0, 0] S512x896.size inb_S512x896_S512x896_0_0).toLoadRect f6)⟩])
    = nH i (M6.view.read (Elt F) f6) (M9.view.read (Elt F) f9) := by
  funext y
  rw [read_whole6]
  unfold nH
  by_cases h : (y 0).val = (i 1).val
  · rw [if_pos ⟨hc2, h⟩]
    refine (View.read_writes_cons_hit_of_coords _ _ _ _ _ (ix3 0 (y 1) (y 2)) y ?_).trans (pay16_at _ _ _ _)
    intro d
    have e : (Rect.unit (s := S4x896x512) (k0_off1 i) S1x896x512.size inb).off = ![(i 1).val, 0, 0] := off1_eq i
    rw [e]
    fin_cases d <;> simp [Rect.unit, ix3, h]
  · rw [if_neg (fun hh => h hh.2)]
    refine (View.read_writes_cons_miss_of_axis _ _ _ _ y 0 (i 1).val 1 ?_ rfl rfl ?_)
    · show k0_off1 i 0 = _
      rw [off1_eq]; rfl
    · omega

/-- The index buffer after its four rows are stored reads as the prepared index rows. -/
theorem read_idx (M3 : Memref sig .tc .vmem S1x2x448x128 .i8) (M11 : Memref sig .tc .vmem S4x448x128 .i32) (f3 : Bf (F := F) c M3) (f11 : Bf (F := F) c M11) :
    M11.view.read (Elt F) (M11.view.writes (Elt F) f11
      [⟨Rect.unit (s := S4x448x128) ![3, 0, 0] S1x448x128.size inb_S4x448x128_S1x448x128_3_0_0, k0_pay17 (k0_pay8 (View.readAt (Elt F) M3.view (Rect.unit (s := S1x2x448x128) ![0, 0, 0, 0] S1x2x448x128.size inb_S1x2x448x128_S1x2x448x128_0_0_0_0).toLoadRect f3))⟩,
       ⟨Rect.unit (s := S4x448x128) ![2, 0, 0] S1x448x128.size inb_S4x448x128_S1x448x128_2_0_0, k0_pay7 (View.readAt (Elt F) M3.view (Rect.unit (s := S1x2x448x128) ![0, 0, 0, 0] S1x2x448x128.size inb_S1x2x448x128_S1x2x448x128_0_0_0_0).toLoadRect f3)⟩,
       ⟨Rect.unit (s := S4x448x128) ![1, 0, 0] S1x448x128.size inb_S4x448x128_S1x448x128_1_0_0, k0_pay5 (View.readAt (Elt F) M3.view (Rect.unit (s := S1x2x448x128) ![0, 0, 0, 0] S1x2x448x128.size inb_S1x2x448x128_S1x2x448x128_0_0_0_0).toLoadRect f3)⟩,
       ⟨Rect.unit (s := S4x448x128) ![0, 0, 0] S1x448x128.size inb_S4x448x128_S1x448x128_0_0_0, k0_pay4 (View.readAt (Elt F) M3.view (Rect.unit (s := S1x2x448x128) ![0, 0, 0, 0] S1x2x448x128.size inb_S1x2x448x128_S1x2x448x128_0_0_0_0).toLoadRect f3)⟩])
    = mkIdx (M3.view.read (Elt F) f3) := by
  funext y
  rw [read_whole3]
  refine View.read_writes_apply_of_pieces _ _ (mkIdx (M3.view.read (Elt F) f3)) _ ?_ y ?_
  swap
  · exact View.cover_of_tiled (s := S4x448x128) _ S1x448x128.size (by sl_kernel_rfl) y
  intro p hp
  simp only [List.mem_cons, List.not_mem_nil, _root_.or_false] at hp
  rcases hp with rfl | rfl | rfl | rfl <;> intro x <;>
    obtain ⟨a, g, l, rfl⟩ : ∃ (a : Fin 1) (g : Fin 448) (l : Fin 128), x = ix3 a g l := ⟨x 0, x 1, x 2, eq_ix3 x⟩ <;>
    obtain rfl : a = 0 := Subsingleton.elim _ _
  · refine ((pay17_at _ _ g l).trans (?_ : _ = mkIdx (M3.view.read (Elt F) f3) (ix3 3 g l))).trans (congrArg (mkIdx (M3.view.read (Elt F) f3)) ?_)
    · exact (mkIdx_odd _ _ _ _ _ rfl rfl).symm
    · refine funext fun d => Fin.ext ?_
      fin_cases d <;> simp [Rect.emb_apply, ix3]
  · refine ((pay7_at _ _ g l).trans (?_ : _ = mkIdx (M3.view.read (Elt F) f3) (ix3 2 g l))).trans (congrArg (mkIdx (M3.view.read (Elt F) f3)) ?_)
    · exact (mkIdx_even _ _ _ _ _ rfl rfl).symm
    · refine funext fun d => Fin.ext ?_
      fin_cases d <;> simp [Rect.emb_apply, ix3]
  · refine ((pay5_at _ _ g l).trans (?_ : _ = mkIdx (M3.view.read (Elt F) f3) (ix3 1 g l))).trans (congrArg (mkIdx (M3.view.read (Elt F) f3)) ?_)
    · exact (mkIdx_odd _ _ _ _ _ rfl rfl).symm
    · refine funext fun d => Fin.ext ?_
      fin_cases d <;> simp [Rect.emb_apply, ix3]
  · refine ((pay4_at _ _ g l).trans (?_ : _ = mkIdx (M3.view.read (Elt F) f3) (ix3 0 g l))).trans (congrArg (mkIdx (M3.view.read (Elt F) f3)) ?_)
    · exact (mkIdx_even _ _ _ _ _ rfl rfl).symm
    · refine funext fun d => Fin.ext ?_
      fin_cases d <;> simp [Rect.emb_apply, ix3]

end Reads

/-! ## The preparation: the first part of the body -/

set_option sl_exec.squeezeSlice true in
/-- The words and table rows the first part hands on. -/
abbrev prepRes (c : Dev nD) (i : grid0.Coords) (M12 : Memref sig .tc .vmem S2x2x8x128 .f32) (g12 : Bf (F := F) c M12) :
    Σ' (arg1 : BitVec 32) (v0 : BitVec 32) (v2 : BitVec 32) (v12 : BitVec 32) (v25 : FVec F S8x128 .f32), FVec F S8x128 .f32 :=
  ⟨BitVec.ofNat 32 (i 1).val, Scalar.minsi (BitVec.ofNat 32 (i 0).val) 35#32,
            Scalar.select (Scalar.cmpi .slt (BitVec.ofNat 32 (i 0).val) 36#32) (BitVec.ofNat 32 (i 1).val) 3#32,
            Scalar.select (Scalar.andi (Scalar.xori (Scalar.cmpi .slt (Scalar.remsi (BitVec.ofNat 32 (i 0).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 0).val) (Scalar.select (Scalar.cmpi .eq 2#32 0#32) 1#32 2#32)) 0#32)) (Scalar.addi (Scalar.remsi (BitVec.ofNat 32 (i 0).val) (Scalar.select (Scalar.cmpi .eq 2#32 0#32) 1#32 2#32)) (Scalar.select (Scalar.cmpi .eq 2#32 0#32) 1#32 2#32)) (Scalar.remsi (BitVec.ofNat 32 (i 0).val) (Scalar.select (Scalar.cmpi .eq 2#32 0#32) 1#32 2#32)),
            k0_pay18 (View.readAt (Elt F) M12.view (Rect.unit (s := S2x2x8x128) ![0, 0, 0, 0] S1x1x8x128.size inb_S2x2x8x128_S1x1x8x128_0_0_0_0).toLoadRect g12),
            k0_pay19 (View.readAt (Elt F) M12.view (Rect.unit (s := S2x2x8x128) ![0, 1, 0, 0] S1x1x8x128.size inb_S2x2x8x128_S1x1x8x128_0_1_0_0).toLoadRect g12)⟩

/-- The table halves loaded back right after they are stored are the ones loaded from the finished buffer. -/
theorem prepRes_cov (c : Dev nD) (i : grid0.Coords) (M4 : Memref sig .tc .vmem S2x8x256 .bf16) (M12 : Memref sig .tc .vmem S2x2x8x128 .f32) (f4 : Bf (F := F) c M4) (f12 : Bf (F := F) c M12) :
    (⟨(prepRes c i M12 f12).1, (prepRes c i M12 f12).2.1, (prepRes c i M12 f12).2.2.1, (prepRes c i M12 f12).2.2.2.1,
      k0_pay18 (M12.view.readCov (tabPieces c M4 f4) (Rect.unit (s := S2x2x8x128) ![0, 0, 0, 0] S1x1x8x128.size inb_S2x2x8x128_S1x1x8x128_0_0_0_0).toLoadRect),
      k0_pay19 (M12.view.readCov (tabPieces c M4 f4) (Rect.unit (s := S2x2x8x128) ![0, 1, 0, 0] S1x1x8x128.size inb_S2x2x8x128_S1x1x8x128_0_1_0_0).toLoadRect)⟩ :
      Σ' (arg1 : BitVec 32) (v0 : BitVec 32) (v2 : BitVec 32) (v12 : BitVec 32) (v25 : FVec F S8x128 .f32), FVec F S8x128 .f32)
    = prepRes c i M12 (M12.view.writes (Elt F) f12 (tabPieces c M4 f4)) := by
  have hcov := View.cover_of_tiled (tabPieces c M4 f4) S1x1x8x128.size (by sl_kernel_rfl)
  unfold prepRes
  rw [View.readAt_writes_of_cover M12.view f12 (tabPieces c M4 f4) _ (fun j => hcov _),
    View.readAt_writes_of_cover M12.view f12 (tabPieces c M4 f4) _ (fun j => hcov _)]

/-- The first part of the body: the codebook tables and the zeroed sums at the first point, one block of `h` in the first
    tile, the index rows at each tile's first point. -/
theorem prep (c : Dev nD) (i : grid0.Coords)
    (M2 : Memref sig .tc .vmem S128x896 .f32) (h2 : M2.IsWhole) (M3 : Memref sig .tc .vmem S1x2x448x128 .i8) (h3 : M3.IsWhole)
    (M4 : Memref sig .tc .vmem S2x8x256 .bf16) (h4 : M4.IsWhole) (M5 : Memref sig .tc .vmem S4x128 .f32) (h5 : M5.IsWhole)
    (M6 : Memref sig .tc .vmem S512x896 .f32) (h6 : M6.IsWhole) (M7 : Memref sig .tc .vmem S128x128 .f32) (h7 : M7.IsWhole)
    (M8 : Memref sig .tc .vmem S128x896 .bf16) (h8 : M8.IsWhole) (M9 : Memref sig .tc .vmem S4x896x512 .bf16) (h9 : M9.IsWhole)
    (M10 : Memref sig .tc .vmem S2x4x128x128 .f32) (h10 : M10.IsWhole) (M11 : Memref sig .tc .vmem S4x448x128 .i32) (h11 : M11.IsWhole)
    (M12 : Memref sig .tc .vmem S2x2x8x128 .f32) (h12 : M12.IsWhole)
    (f3 : Bf (F := F) c M3) (f4 : Bf (F := F) c M4) (f6 : Bf (F := F) c M6)
    (f9 : Bf (F := F) c M9) (f10 : Bf (F := F) c M10) (f11 : Bf (F := F) c M11) (f12 : Bf (F := F) c M12)
    (E : Set ℕ) (Q : _ → sProp 𝕄) :
    iprop(pt c M3 f3 ∗ pt c M4 f4 ∗ pt c M6 f6 ∗ pt c M9 f9 ∗ pt c M10 f10 ∗ pt c M11 f11 ∗ pt c M12 f12
      ∗ (∀ g9 g10 g11 g12 r, ⌜M9.view.read (Elt F) g9 = nH i (M6.view.read (Elt F) f6) (M9.view.read (Elt F) f9)
            ∧ M10.view.read (Elt F) g10 = nSum i (M10.view.read (Elt F) f10)
            ∧ M11.view.read (Elt F) g11 = nIdx i (M3.view.read (Elt F) f3) (M11.view.read (Elt F) f11)
            ∧ M12.view.read (Elt F) g12 = nTab i (M4.view.read (Elt F) f4) (M12.view.read (Elt F) f12)
            ∧ r = prepRes c i M12 g12⌝
          -∗ (pt c M3 f3 ∗ pt c M4 f4 ∗ pt c M6 f6 ∗ pt c M9 g9 ∗ pt c M10 g10 ∗ pt c M11 g11 ∗ pt c M12 g12)
          -∗ Q r))
    ⊢ wp frame (wpE (defs₀ (F := F)) Variants.none c none) E
        (k0_part2 i M2 h2 M3 h3 M4 h4 M5 h5 M6 h6 M7 h7 M8 h8 M9 h9 M10 h10 M11 h11 M12 h12) Q := by
  iintro ⟨H3, H4, H6, H9, H10, H11, H12, Hk⟩

  by_cases hc1 : cond1 i = 1#1 <;> by_cases hc2 : k0_cond2 i = 1#1 <;> by_cases hc3 : cond3 i = 1#1
  · sl_unfold [k0_part2]
    sl_exec_parts
    sl_step
    iapply Hk $$ %_ %_ %_ %_ %_ [] [H3 H4 H6 H9 H10 H11 H12]
    · ipureintro
      exact ⟨(read_h c i ((cond2_iff i).mp hc2) (k0_off1_inb i hc2) M6 M9 f6 f9),
      (read_sum c M10 f10).trans (if_pos ((cond1_iff i).mp hc1)).symm,
      (read_idx c M3 M11 f3 f11).trans (if_pos ((cond3_iff i).mp hc3)).symm,
      (read_tab c M4 M12 f4 f12).trans (if_pos ((cond1_iff i).mp hc1)).symm, prepRes_cov c i M4 M12 f4 f12⟩
    · isplitl [H3]; iexact H3
      isplitl [H4]; iexact H4
      isplitl [H6]; iexact H6
      isplitl [H9]; iexact H9
      isplitl [H10]; iexact H10
      isplitl [H11]; iexact H11
      iexact H12
  · exact absurd ((cond3_iff i).mpr ((cond1_iff i).mp hc1).2) hc3
  · exact absurd ((cond2_iff i).mpr ((cond1_iff i).mp hc1).1) hc2
  · exact absurd ((cond2_iff i).mpr ((cond1_iff i).mp hc1).1) hc2
  · exact absurd ((cond1_iff i).mpr ⟨(cond2_iff i).mp hc2, (cond3_iff i).mp hc3⟩) hc1
  · sl_unfold [k0_part2]
    sl_exec_parts
    sl_step
    iapply Hk $$ %_ %_ %_ %_ %_ [] [H3 H4 H6 H9 H10 H11 H12]
    · ipureintro
      exact ⟨(read_h c i ((cond2_iff i).mp hc2) (k0_off1_inb i hc2) M6 M9 f6 f9),
      (if_neg (fun h => hc1 ((cond1_iff i).mpr h))).symm,
      (if_neg (fun h => hc3 ((cond3_iff i).mpr h))).symm,
      (if_neg (fun h => hc1 ((cond1_iff i).mpr h))).symm, rfl⟩
    · isplitl [H3]; iexact H3
      isplitl [H4]; iexact H4
      isplitl [H6]; iexact H6
      isplitl [H9]; iexact H9
      isplitl [H10]; iexact H10
      isplitl [H11]; iexact H11
      iexact H12
  · sl_unfold [k0_part2]
    sl_exec_parts
    sl_step
    iapply Hk $$ %_ %_ %_ %_ %_ [] [H3 H4 H6 H9 H10 H11 H12]
    · ipureintro
      exact ⟨(funext fun j => (if_neg (fun h => hc2 ((cond2_iff i).mpr h.1))).symm),
      (if_neg (fun h => hc1 ((cond1_iff i).mpr h))).symm,
      (read_idx c M3 M11 f3 f11).trans (if_pos ((cond3_iff i).mp hc3)).symm,
      (if_neg (fun h => hc1 ((cond1_iff i).mpr h))).symm, rfl⟩
    · isplitl [H3]; iexact H3
      isplitl [H4]; iexact H4
      isplitl [H6]; iexact H6
      isplitl [H9]; iexact H9
      isplitl [H10]; iexact H10
      isplitl [H11]; iexact H11
      iexact H12
  · sl_unfold [k0_part2]
    sl_exec_parts
    sl_step
    iapply Hk $$ %_ %_ %_ %_ %_ [] [H3 H4 H6 H9 H10 H11 H12]
    · ipureintro
      exact ⟨(funext fun j => (if_neg (fun h => hc2 ((cond2_iff i).mpr h.1))).symm),
      (if_neg (fun h => hc1 ((cond1_iff i).mpr h))).symm,
      (if_neg (fun h => hc3 ((cond3_iff i).mpr h))).symm,
      (if_neg (fun h => hc1 ((cond1_iff i).mpr h))).symm, rfl⟩
    · isplitl [H3]; iexact H3
      isplitl [H4]; iexact H4
      isplitl [H6]; iexact H6
      isplitl [H9]; iexact H9
      isplitl [H10]; iexact H10
      isplitl [H11]; iexact H11
      iexact H12

end Cert.Kernel.Hand
end
-- ==== Proof.KPieces.lean ====
module

public import proofs.«01_k».proof.Proof.KPrep

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise

variable {F : FTy → Type} [FloatOps F]

local notation "𝕄" => MT nD τ sig Unit (Elt F) ℕ (UR sig nD τ) ℕ

/-! ## The seven stores of the remainder block, regularly -/

section Pieces
variable (c : Dev nD) (i : grid0.Coords)
  (M2 : Memref sig .tc .vmem S128x896 .f32) (M5 : Memref sig .tc .vmem S4x128 .f32)
  (M11 : Memref sig .tc .vmem S4x448x128 .i32) (M12 : Memref sig .tc .vmem S2x2x8x128 .f32)
  (f2 : Bf (F := F) c M2) (f5 : Bf (F := F) c M5) (g11 : Bf (F := F) c M11) (g12 : Bf (F := F) c M12)

/-- One index row as the body loads it: row `off4` of plane `m`. -/
def rowF (a : Fin 7) (b : Fin 16) (m : ℕ) (hm : ∀ x, (![m, 0, 0] : Fin 3 → ℕ) x + S1x448x128.size x ≤ S4x448x128.size x) : Vec F S1x128 .i32 :=
  LoadRect.valAlong
    (LoadRect.numel_consLift (Rect.unit (s := S448x128) (k0_off4 i (BitVec.ofNat 32 a.val) (BitVec.ofNat 32 b.val)) S1x128.size (k0_off4_inb i a b)).toLoadRect
      ![1, 448, 128] (by decide) (by decide))
    (View.readAt (Elt F) M11.view
      ((Rect.unit (s := S4x448x128) ![m, 0, 0] S1x448x128.size hm).withinL
        ((Rect.unit (s := S448x128) (k0_off4 i (BitVec.ofNat 32 a.val) (BitVec.ofNat 32 b.val)) S1x128.size (k0_off4_inb i a b)).toLoadRect.consLift
          ![1, 448, 128] (by decide) (by decide))
        (fun _ => rfl)) g11)

/-- The scale row, eight times. -/
def scaleF : FVec F S8x128 .f32 :=
  broadcastTo S8x128 (shapeCast S1x128 (View.readAt (Elt F) M5.view (Rect.unit (s := S4x128) (k0_off3 i) S1x128.size (k0_off3_inb i)).toLoadRect f5) shapeCasts_S1x128_S1x128) broadcasts_S1x128_S8x128
/-- Half `n` of codebook `m`. -/
def halfF (m n : ℕ) (hm : ∀ x, (![m, n, 0, 0] : Fin 4 → ℕ) x + S1x1x8x128.size x ≤ S2x2x8x128.size x) : FVec F S8x128 .f32 :=
  shapeCast S8x128 (View.readAt (Elt F) M12.view (Rect.unit (s := S2x2x8x128) ![m, n, 0, 0] S1x1x8x128.size hm).toLoadRect g12) shapeCasts_S1x1x8x128_S8x128

/-- Eight columns of the scaled decode, transposed. -/
def partF (a : Fin 7) (b : Fin 16) : FVec F S8x128 .f32 :=
  k0_pay27 (halfF c M12 g12 1 0 inb_S2x2x8x128_S1x1x8x128_1_0_0_0) (halfF c M12 g12 1 1 inb_S2x2x8x128_S1x1x8x128_1_1_0_0) (scaleF c i M5 f5)
    (k0_pay25 (halfF c M12 g12 0 0 inb_S2x2x8x128_S1x1x8x128_0_0_0_0) (rowF c i M11 g11 a b 0 inb_S4x448x128_S1x448x128_0_0_0))
    (k0_pay26 (halfF c M12 g12 0 1 inb_S2x2x8x128_S1x1x8x128_0_1_0_0) (rowF c i M11 g11 a b 0 inb_S4x448x128_S1x448x128_0_0_0))
    (rowF c i M11 g11 a b 1 inb_S4x448x128_S1x448x128_1_0_0) (rowF c i M11 g11 a b 2 inb_S4x448x128_S1x448x128_2_0_0)
    (rowF c i M11 g11 a b 3 inb_S4x448x128_S1x448x128_3_0_0)

/-- One 128-column piece of the rounded remainder. -/
def pieceF (a : Fin 7) (w : Vec F S128x128 .f32) : FVec F S128x128 .bf16 :=
  truncf .bf16 (subf (shapeCast S128x128 w shapeCasts_S128x128_S128x128)
    (transpose S128x128 [1, 0] (concatenate S128x128 0
      ([⟨S8x128, partF c i M5 M11 M12 f5 g11 g12 a 0⟩, ⟨S8x128, partF c i M5 M11 M12 f5 g11 g12 a 1⟩, ⟨S8x128, partF c i M5 M11 M12 f5 g11 g12 a 2⟩, ⟨S8x128, partF c i M5 M11 M12 f5 g11 g12 a 3⟩, ⟨S8x128, partF c i M5 M11 M12 f5 g11 g12 a 4⟩, ⟨S8x128, partF c i M5 M11 M12 f5 g11 g12 a 5⟩, ⟨S8x128, partF c i M5 M11 M12 f5 g11 g12 a 6⟩, ⟨S8x128, partF c i M5 M11 M12 f5 g11 g12 a 7⟩, ⟨S8x128, partF c i M5 M11 M12 f5 g11 g12 a 8⟩, ⟨S8x128, partF c i M5 M11 M12 f5 g11 g12 a 9⟩, ⟨S8x128, partF c i M5 M11 M12 f5 g11 g12 a 10⟩, ⟨S8x128, partF c i M5 M11 M12 f5 g11 g12 a 11⟩, ⟨S8x128, partF c i M5 M11 M12 f5 g11 g12 a 12⟩, ⟨S8x128, partF c i M5 M11 M12 f5 g11 g12 a 13⟩, ⟨S8x128, partF c i M5 M11 M12 f5 g11 g12 a 14⟩, ⟨S8x128, partF c i M5 M11 M12 f5 g11 g12 a 15⟩])
      concatenates_S8x128_S8x128_S8x128_S8x128_S8x128_S8x128_S8x128_S8x128_S8x128_S8x128_S8x128_S8x128_S8x128_S8x128_S8x128_S8x128_S128x128_d0)
      transposes_S128x128_p1_0_S128x128)) bitsLt_bf16_f32

/-! ### The loads and the pieces, at an index -/

/-- The column block of a point, as a number. -/
theorem stepOf_val (i : grid0.Coords) : (stepOf i).val = if (i 0).val < 36 then (i 1).val else 3 := by
  unfold stepOf
  split <;> rfl

/-- A loaded index row, at an index. -/
theorem rowF_at (a : Fin 7) (b : Fin 16) (m : ℕ) (hm) (k : Fin 4) (hk : k.val = m) (g : Fin 448)
    (hg : g.val = 112 * (stepOf i).val + 16 * a.val + b.val) (z : Fin 1) (o : Fin 128) :
    rowF c i M11 g11 a b m hm (ix2 z o) = M11.view.read (Elt F) g11 (ix3 k g o) := by
  unfold rowF
  have hx := Shape.reshapeEquiv_cons_one (d := S1x128.size)
    (LoadRect.numel_consLift (Rect.unit (s := S448x128) (k0_off4 i (BitVec.ofNat 32 a.val) (BitVec.ofNat 32 b.val)) S1x128.size (k0_off4_inb i a b)).toLoadRect
      ![1, 448, 128] (by decide) (by decide)) (ix2 z o)
  have ho := off4_eq i a b
  have hs := stepOf_val i
  obtain rfl : z = 0 := Subsingleton.elim _ _
  show M11.view.read (Elt F) g11 _ = _
  refine congrArg _ ?_
  rw [Rect.idx_withinL]
  refine (congrArg _ (congrArg _ hx)).trans ?_
  refine funext fun d => Fin.ext ?_
  have h0 : k0_off4 i (BitVec.ofNat 32 a.val) (BitVec.ofNat 32 b.val) 0 = 112 * (stepOf i).val + 16 * a.val + b.val := by
    rw [ho, hs]; rfl
  have h1 : k0_off4 i (BitVec.ofNat 32 a.val) (BitVec.ofNat 32 b.val) 1 = 0 := by rw [ho]; rfl
  fin_cases d
  · show m + 1 * (0 + 1 * 0) = k.val
    omega
  · show 0 + 1 * (k0_off4 i (BitVec.ofNat 32 a.val) (BitVec.ofNat 32 b.val) 0 + 1 * 0) = g.val
    omega
  · show 0 + 1 * (k0_off4 i (BitVec.ofNat 32 a.val) (BitVec.ofNat 32 b.val) 1 + 1 * o.val) = o.val
    omega

/-- The scales of a point: those of its tile's batch, the same in every row. -/
theorem scaleF_at (e : Fin 8) (o : Fin 128) : scaleF c i M5 f5 (ix2 e o) = M5.view.read (Elt F) f5 (ix2 (batchOf i) o) := by
  have ho := off3_eq i
  pointwise [scaleF]
  rw [View.readAt_apply]
  refine congrArg _ (funext fun d => Fin.ext ?_)
  fin_cases d
  · show k0_off3 i 0 + 1 * 0 = (batchOf i).val
    rw [ho]; simp [batchOf]
  · show k0_off3 i 1 + 1 * o.val = o.val
    rw [ho]; simp

omit [FloatOps F] in
/-- A block of two leading unit axes without them. -/
theorem squeeze_at (x : Vec F S1x1x8x128 .f32) (e : Fin 8) (l : Fin 128) : shapeCast S8x128 x shapeCasts_S1x1x8x128_S8x128 (ix2 e l) = x (ix4 0 0 e l) := by
  pointwise []

/-- A loaded half of a codebook table, at an index. -/
theorem halfF_at (m n : ℕ) (hm) (k : Fin 2) (hk : k.val = m) (q : Fin 2) (hq : q.val = n) (e : Fin 8) (l : Fin 128) :
    halfF c M12 g12 m n hm (ix2 e l) = M12.view.read (Elt F) g12 (ix4 k q e l) := by
  unfold halfF
  rw [squeeze_at, View.readAt_apply]
  refine congrArg _ (funext fun d => Fin.ext ?_)
  fin_cases d
  · show m + 1 * 0 = k.val
    omega
  · show n + 1 * 0 = q.val
    omega
  · show 0 + 1 * e.val = e.val
    omega
  · show 0 + 1 * l.val = l.val
    omega

/-- The decoding of one group on loaded values: the scale times the sum of both selected entries. -/
theorem pay27_at (s25 s27 v29 v31 s42 : FVec F S8x128 .f32) (r0 r1 r2 r3 : Vec F S1x128 .i32) (e : Fin 8) (o : Fin 128) :
    k0_pay27 v29 v31 s42 (k0_pay25 s25 r0) (k0_pay26 s27 r0) r1 r2 r3 (ix2 e o)
    = FloatOps.mulf (s42 (ix2 e o)) (FloatOps.addf
        (Scalar.select (IntOp.cmpi .eq (r1 (ix2 0 o)) 16#32)
          (s25 (ix2 e ⟨(show BitVec 32 from r0 (ix2 0 o)).toNat % 128, Nat.mod_lt _ (by norm_num)⟩))
          (s27 (ix2 e ⟨(show BitVec 32 from r0 (ix2 0 o)).toNat % 128, Nat.mod_lt _ (by norm_num)⟩)))
        (Scalar.select (IntOp.cmpi .eq (r3 (ix2 0 o)) 16#32)
          (v29 (ix2 e ⟨(show BitVec 32 from r2 (ix2 0 o)).toNat % 128, Nat.mod_lt _ (by norm_num)⟩))
          (v31 (ix2 e ⟨(show BitVec 32 from r2 (ix2 0 o)).toNat % 128, Nat.mod_lt _ (by norm_num)⟩)))) := by
  pointwise [k0_pay27, k0_pay25, k0_pay26, k0_pay24]

/-- The decoded rows of one group, at an index. -/
theorem partF_at (a : Fin 7) (b : Fin 16) (g : Fin 448) (hg : g.val = 112 * (stepOf i).val + 16 * a.val + b.val) (e : Fin 8) (o : Fin 128) :
    partF c i M5 M11 M12 f5 g11 g12 a b (ix2 e o)
    = dq (M5.view.read (Elt F) f5 (ix2 (batchOf i) o)) (M11.view.read (Elt F) g11) (M12.view.read (Elt F) g12) g e o := by
  unfold partF
  rw [pay27_at, scaleF_at, halfF_at c M12 g12 0 0 _ 0 rfl 0 rfl, halfF_at c M12 g12 0 1 _ 0 rfl 1 rfl,
    halfF_at c M12 g12 1 0 _ 1 rfl 0 rfl, halfF_at c M12 g12 1 1 _ 1 rfl 1 rfl]
  simp only [rowF_at c i M11 g11 a b 0 _ 0 rfl g hg, rowF_at c i M11 g11 a b 1 _ 1 rfl g hg,
    rowF_at c i M11 g11 a b 2 _ 2 rfl g hg, rowF_at c i M11 g11 a b 3 _ 3 rfl g hg]
  rfl

omit [FloatOps F] in
/-- Sixteen groups of eight rows, one on another, at an index. -/
theorem cat_at (P : Fin 16 → FVec F S8x128 .f32) (l o : Fin 128) (e : Fin 8) (he : e.val = l.val % 8) (t : Fin 16) (ht : l.val / 8 = t.val) :
    concatenate S128x128 0 [⟨S8x128, P 0⟩, ⟨S8x128, P 1⟩, ⟨S8x128, P 2⟩, ⟨S8x128, P 3⟩, ⟨S8x128, P 4⟩, ⟨S8x128, P 5⟩, ⟨S8x128, P 6⟩, ⟨S8x128, P 7⟩, ⟨S8x128, P 8⟩, ⟨S8x128, P 9⟩, ⟨S8x128, P 10⟩, ⟨S8x128, P 11⟩, ⟨S8x128, P 12⟩, ⟨S8x128, P 13⟩, ⟨S8x128, P 14⟩, ⟨S8x128, P 15⟩] concatenates_S8x128_S8x128_S8x128_S8x128_S8x128_S8x128_S8x128_S8x128_S8x128_S8x128_S8x128_S8x128_S8x128_S8x128_S8x128_S8x128_S128x128_d0 (ix2 l o) = P t (ix2 e o) :=
  concatenate_ofFn_apply (t := S128x128) (s₁ := S8x128) 0 P concatenates_S8x128_S8x128_S8x128_S8x128_S8x128_S8x128_S8x128_S8x128_S8x128_S8x128_S8x128_S8x128_S8x128_S8x128_S8x128_S8x128_S128x128_d0
    rfl 8 rfl (ix2 l o) t ht (ix2 e o) he (by
      intro b hb
      fin_cases b
      · exact absurd rfl hb
      · rfl)

/-- The rounded difference at an index. -/
theorem sub_at (w T : FVec F S128x128 .f32) (o l : Fin 128) :
    truncf .bf16 (subf (shapeCast S128x128 w shapeCasts_S128x128_S128x128) (transpose S128x128 [1, 0] T transposes_S128x128_p1_0_S128x128)) bitsLt_bf16_f32 (ix2 o l)
    = FloatOps.truncf .bf16 bitsLt_bf16_f32 (FloatOps.subf (w (ix2 o l)) (T (ix2 l o))) := by
  pointwise []

/-- One stored piece of 128 columns of the residual, at an index. -/
theorem pieceF_at (a : Fin 7) (w : Vec F S128x128 .f32) (o l : Fin 128) (g : Fin 448) (hg : g.val = 112 * (stepOf i).val + 16 * a.val + l.val / 8) (e : Fin 8)
    (he : e.val = l.val % 8) :
    pieceF c i M5 M11 M12 f5 g11 g12 a w (ix2 o l)
    = FloatOps.truncf .bf16 bitsLt_bf16_f32 (FloatOps.subf (w (ix2 o l))
        (dq (M5.view.read (Elt F) f5 (ix2 (batchOf i) o)) (M11.view.read (Elt F) g11) (M12.view.read (Elt F) g12) g e o)) := by
  have hb : l.val / 8 < 16 := by omega
  unfold pieceF
  rw [sub_at, cat_at (fun t => partF c i M5 M11 M12 f5 g11 g12 a t) l o e he ⟨l.val / 8, hb⟩ rfl,
    partF_at c i M5 M11 M12 f5 g11 g12 a ⟨l.val / 8, hb⟩ g hg e o]

/-- The seven stores. -/
def H8F : List (View.Piece (Elt F) S128x896 .bf16) :=
  [⟨Rect.unit (s := S128x896) ![0, 768] S128x128.size inb_S128x896_S128x128_0_768,
      pieceF c i M5 M11 M12 f5 g11 g12 6 (View.readAt (Elt F) M2.view (Rect.unit (s := S128x896) ![0, 768] S128x128.size inb_S128x896_S128x128_0_768).toLoadRect f2)⟩,
   ⟨Rect.unit (s := S128x896) ![0, 640] S128x128.size inb_S128x896_S128x128_0_640,
      pieceF c i M5 M11 M12 f5 g11 g12 5 (View.readAt (Elt F) M2.view (Rect.unit (s := S128x896) ![0, 640] S128x128.size inb_S128x896_S128x128_0_640).toLoadRect f2)⟩,
   ⟨Rect.unit (s := S128x896) ![0, 512] S128x128.size inb_S128x896_S128x128_0_512,
      pieceF c i M5 M11 M12 f5 g11 g12 4 (View.readAt (Elt F) M2.view (Rect.unit (s := S128x896) ![0, 512] S128x128.size inb_S128x896_S128x128_0_512).toLoadRect f2)⟩,
   ⟨Rect.unit (s := S128x896) ![0, 384] S128x128.size inb_S128x896_S128x128_0_384,
      pieceF c i M5 M11 M12 f5 g11 g12 3 (View.readAt (Elt F) M2.view (Rect.unit (s := S128x896) ![0, 384] S128x128.size inb_S128x896_S128x128_0_384).toLoadRect f2)⟩,
   ⟨Rect.unit (s := S128x896) ![0, 256] S128x128.size inb_S128x896_S128x128_0_256,
      pieceF c i M5 M11 M12 f5 g11 g12 2 (View.readAt (Elt F) M2.view (Rect.unit (s := S128x896) ![0, 256] S128x128.size inb_S128x896_S128x128_0_256).toLoadRect f2)⟩,
   ⟨Rect.unit (s := S128x896) ![0, 128] S128x128.size inb_S128x896_S128x128_0_128,
      pieceF c i M5 M11 M12 f5 g11 g12 1 (View.readAt (Elt F) M2.view (Rect.unit (s := S128x896) ![0, 128] S128x128.size inb_S128x896_S128x128_0_128).toLoadRect f2)⟩,
   ⟨Rect.unit (s := S128x896) ![0, 0] S128x128.size inb_S128x896_S128x128_0_0,
      pieceF c i M5 M11 M12 f5 g11 g12 0 (View.readAt (Elt F) M2.view (Rect.unit (s := S128x896) ![0, 0] S128x128.size inb_S128x896_S128x128_0_0).toLoadRect f2)⟩]

/-- The residual block after its seven pieces are stored reads as the rounded residual. -/
theorem read_r (M8 : Memref sig .tc .vmem S128x896 .bf16) (f8 : Bf (F := F) c M8) :
    M8.view.read (Elt F) (M8.view.writes (Elt F) f8 (H8F c i M2 M5 M11 M12 f2 f5 g11 g12))
    = rv i (M2.view.read (Elt F) f2) (M5.view.read (Elt F) f5) (M11.view.read (Elt F) g11) (M12.view.read (Elt F) g12) := by
  funext y
  refine View.read_writes_apply_of_pieces _ _ (rv i (M2.view.read (Elt F) f2) (M5.view.read (Elt F) f5) (M11.view.read (Elt F) g11) (M12.view.read (Elt F) g12)) _ ?_ y ?_
  swap
  · exact View.cover_of_tiled (s := S128x896) _ S128x128.size (by sl_kernel_rfl) y
  intro p hp
  unfold H8F at hp
  simp only [List.mem_cons, List.not_mem_nil, _root_.or_false] at hp
  have key : ∀ (a : Fin 7) (inb : ∀ x, (![0, 128 * a.val] : Fin 2 → ℕ) x + S128x128.size x ≤ S128x896.size x) (x : S128x128.Idx),
      pieceF c i M5 M11 M12 f5 g11 g12 a (View.readAt (Elt F) M2.view (Rect.unit (s := S128x896) ![0, 128 * a.val] S128x128.size inb).toLoadRect f2) x
      = rv i (M2.view.read (Elt F) f2) (M5.view.read (Elt F) f5) (M11.view.read (Elt F) g11) (M12.view.read (Elt F) g12) ((Rect.unit (s := S128x896) ![0, 128 * a.val] S128x128.size inb).emb x) := by
    intro a inb x
    obtain ⟨o, l, rfl⟩ : ∃ (o l : Fin 128), x = ix2 o l := ⟨x 0, x 1, eq_ix2 x⟩
    have hst := (stepOf i).isLt
    have hE : (Rect.unit (s := S128x896) ![0, 128 * a.val] S128x128.size inb).emb (ix2 o l) = ix2 o ⟨128 * a.val + l.val, by omega⟩ := by
      refine funext fun d => Fin.ext ?_
      fin_cases d <;> simp [Rect.emb_apply, ix2]
    have rflg : 112 * (stepOf i).val + (128 * a.val + l.val) / 8 = 112 * (stepOf i).val + 16 * a.val + l.val / 8 := by omega
    have rfle : (128 * a.val + l.val) % 8 = l.val % 8 := by omega
    rw [hE, pieceF_at c i M5 M11 M12 f5 g11 g12 a _ o l ⟨112 * (stepOf i).val + (128 * a.val + l.val) / 8, by omega⟩ rflg ⟨(128 * a.val + l.val) % 8, by omega⟩ rfle]
    rw [show View.readAt (Elt F) M2.view (Rect.unit (s := S128x896) ![0, 128 * a.val] S128x128.size inb).toLoadRect f2 (ix2 o l) = M2.view.read (Elt F) f2 (ix2 o ⟨128 * a.val + l.val, by omega⟩) from congrArg (M2.view.read (Elt F) f2) hE]
    rfl
  rcases hp with rfl | rfl | rfl | rfl | rfl | rfl | rfl
  · exact key 6 _
  · exact key 5 _
  · exact key 4 _
  · exact key 3 _
  · exact key 2 _
  · exact key 1 _
  · exact key 0 _

end Pieces

/-! ## The product block, the running sums -/

section Sums
variable (c : Dev nD) (i : grid0.Coords)

/-- The rounded remainder as the product reads it back. -/
theorem readCov_r (M2 : Memref sig .tc .vmem S128x896 .f32) (M5 : Memref sig .tc .vmem S4x128 .f32)
    (M11 : Memref sig .tc .vmem S4x448x128 .i32) (M12 : Memref sig .tc .vmem S2x2x8x128 .f32)
    (f2 : Bf (F := F) c M2) (f5 : Bf (F := F) c M5) (g11 : Bf (F := F) c M11) (g12 : Bf (F := F) c M12) (M8 : Memref sig .tc .vmem S128x896 .bf16) :
    M8.view.readCov (H8F c i M2 M5 M11 M12 f2 f5 g11 g12) (Rect.unit (s := S128x896) ![0, 0] S128x896.size inb_S128x896_S128x896_0_0).toLoadRect
    = rv i (M2.view.read (Elt F) f2) (M5.view.read (Elt F) f5) (M11.view.read (Elt F) g11) (M12.view.read (Elt F) g12) := by
  funext j
  unfold View.readCov
  rw [View.readAt_apply]
  have e := read_r c i M2 M5 M11 M12 f2 f5 g11 g12 M8 M8.view.junk
  refine (congrFun e _).trans (congrArg _ (funext fun d => Fin.ext ?_))
  fin_cases d
  · show 0 + 1 * (j 0).val = (j 0).val
    omega
  · show 0 + 1 * (j 1).val = (j 1).val
    omega

/-- A selection between two blocks by one word is made at every index. -/
theorem sel_at {n : Nat} (b : BitVec 1) (x y : FVec F S128x128 .f32) (j) : (Scalar.select b x y : FVec F S128x128 .f32) j = Scalar.select b (x j) (y j) := by
  unfold Scalar.select
  split <;> rfl

/-- The first stored column block of the running sum, at an index. -/
theorem pay416_at (a : BitVec 32) (R : Vec F S128x896 .bf16) (h : Vec F S1x896x512 .bf16) (old : Vec F S1x1x128x128 .f32) (z z' : Fin 1) (o l : Fin 128) :
    k0_pay417 (k0_pay416 a R h old) (ix4 z z' o l)
    = FloatOps.addf (Scalar.select (Scalar.cmpi .eq a 0#32) zro (old (ix4 0 0 o l))) (k0_pay415 R h (ix2 o ⟨0 + l.val, by omega⟩)) := by
  pointwise [k0_pay417, k0_pay416]
  rfl
/-- The second stored column block of the running sum, at an index. -/
theorem pay418_at (a : BitVec 32) (D : FVec F S128x512 .f32) (old : Vec F S1x1x128x128 .f32) (z z' : Fin 1) (o l : Fin 128) :
    k0_pay418 a D old (ix4 z z' o l) = FloatOps.addf (Scalar.select (Scalar.cmpi .eq a 0#32) zro (old (ix4 0 0 o l))) (D (ix2 o ⟨128 + l.val, by omega⟩)) := by
  pointwise [k0_pay418]
  rfl
/-- The third stored column block of the running sum, at an index. -/
theorem pay419_at (a : BitVec 32) (D : FVec F S128x512 .f32) (old : Vec F S1x1x128x128 .f32) (z z' : Fin 1) (o l : Fin 128) :
    k0_pay419 a D old (ix4 z z' o l) = FloatOps.addf (Scalar.select (Scalar.cmpi .eq a 0#32) zro (old (ix4 0 0 o l))) (D (ix2 o ⟨256 + l.val, by omega⟩)) := by
  pointwise [k0_pay419]
  rfl
/-- The fourth stored column block of the running sum, at an index. -/
theorem pay420_at (a : BitVec 32) (D : FVec F S128x512 .f32) (old : Vec F S1x1x128x128 .f32) (z z' : Fin 1) (o l : Fin 128) :
    k0_pay1 (k0_pay420 a D old) (ix4 z z' o l) = FloatOps.addf (Scalar.select (Scalar.cmpi .eq a 0#32) zro (old (ix4 0 0 o l))) (D (ix2 o ⟨384 + l.val, by omega⟩)) := by
  pointwise [k0_pay1, k0_pay420]
  rfl

/-- The reshape of the residual block to its own shape changes nothing. -/
theorem mat_r (R : Vec F S128x896 .bf16) : shapeCast S128x896 R shapeCasts_S128x896_S128x896 = R := by
  funext j
  obtain ⟨o, l, rfl⟩ : ∃ (o : Fin 128) (l : Fin 896), j = ix2 o l := ⟨j 0, j 1, eq_ix2 j⟩
  pointwise []

/-- The loaded activations without their leading axis, at an index. -/
theorem mat_h (h : Vec F S1x896x512 .bf16) (d : Fin 896) (n : Fin 512) : shapeCast S896x512 h shapeCasts_S1x896x512_S896x512 (ix2 d n) = h (ix3 0 d n) := by
  pointwise []

/-- The product on the loaded operands is the product of the residual with the column block of the activations. -/
theorem dot_eq (M9 : Memref sig .tc .vmem S4x896x512 .bf16) (g9 : Bf (F := F) c M9) (R : Vec F S128x896 .bf16) :
    k0_pay415 R (View.readAt (Elt F) M9.view (Rect.unit (s := S4x896x512) (k0_off5 i) S1x896x512.size (k0_off5_inb i)).toLoadRect g9)
    = dot R (hMat (M9.view.read (Elt F) g9) (stepOf i)) := by
  have e : shapeCast S896x512 (View.readAt (Elt F) M9.view (Rect.unit (s := S4x896x512) (k0_off5 i) S1x896x512.size (k0_off5_inb i)).toLoadRect g9) shapeCasts_S1x896x512_S896x512
      = hMat (M9.view.read (Elt F) g9) (stepOf i) := by
    funext j
    obtain ⟨d, n, rfl⟩ : ∃ (d : Fin 896) (n : Fin 512), j = ix2 d n := ⟨j 0, j 1, eq_ix2 j⟩
    rw [mat_h, View.readAt_apply]
    unfold hMat
    refine congrArg _ (funext fun a => Fin.ext ?_)
    have ho := off5_eq i
    have hs := stepOf_val i
    fin_cases a
    · show k0_off5 i 0 + 1 * 0 = (stepOf i).val
      rw [ho, hs]; simp
    · show k0_off5 i 1 + 1 * d.val = d.val
      rw [ho]; simp
    · show k0_off5 i 2 + 1 * n.val = n.val
      rw [ho]; simp
  unfold k0_pay415 dot
  rw [mat_r, e]

/-- A loaded block of sums without its two leading axes, at an index. -/
theorem unsq_at (x : Vec F S1x1x128x128 .f32) (o l : Fin 128) : shapeCast S128x128 x shapeCasts_S1x1x128x128_S128x128 (ix2 o l) = x (ix4 0 0 o l) := by
  pointwise []

/-- A block of the running sums, at an index. -/
theorem old_at (M10 : Memref sig .tc .vmem S2x4x128x128 .f32) (g10 : Bf (F := F) c M10) (off : Fin 4 → ℕ) (inb) (a : Fin 2) (b : Fin 4) (ho : off = ![a.val, b.val, 0, 0]) (o l : Fin 128) :
    View.readAt (Elt F) M10.view (Rect.unit (s := S2x4x128x128) off S1x1x128x128.size inb).toLoadRect g10 (ix4 0 0 o l) = M10.view.read (Elt F) g10 (ix4 a b o l) := by
  subst ho
  rw [View.readAt_apply]
  refine congrArg _ (funext fun d => Fin.ext ?_)
  fin_cases d
  · show a.val + 1 * 0 = a.val
    omega
  · show b.val + 1 * 0 = b.val
    omega
  · show 0 + 1 * o.val = o.val
    omega
  · show 0 + 1 * l.val = l.val
    omega

/-- A store of a whole block, read at an index. -/
theorem hit7_at (M7 : Memref sig .tc .vmem S128x128 .f32) (f7 : Bf (F := F) c M7) (w : Vec F S128x128 .f32) (o l : Fin 128) :
    M7.view.read (Elt F) (M7.view.writes (Elt F) f7 [⟨Rect.unit (s := S128x128) ![0, 0] S128x128.size inb_S128x128_S128x128_0_0, w⟩]) (ix2 o l) = w (ix2 o l) := by
  refine View.read_writes_cons_hit_of_coords _ _ (Rect.unit (s := S128x128) ![0, 0] S128x128.size inb_S128x128_S128x128_0_0) w _ (ix2 o l) _ ?_
  intro d
  fin_cases d
  · show o.val = 0 + 1 * o.val
    omega
  · show l.val = 0 + 1 * l.val
    omega

/-- The output block of the products reads as the sums of the other slot. -/
theorem read_p (M7 : Memref sig .tc .vmem S128x128 .f32) (M10 : Memref sig .tc .vmem S2x4x128x128 .f32) (f7 : Bf (F := F) c M7) (g10 : Bf (F := F) c M10) :
    M7.view.read (Elt F) (M7.view.writes (Elt F) f7 [⟨Rect.unit (s := S128x128) ![0, 0] S128x128.size inb_S128x128_S128x128_0_0,
      shapeCast S128x128 (View.readAt (Elt F) M10.view (Rect.unit (s := S2x4x128x128) (k0_off2 i) S1x1x128x128.size (k0_off2_inb i)).toLoadRect g10) shapeCasts_S1x1x128x128_S128x128⟩])
    = oP i (M10.view.read (Elt F) g10) := by
  funext y
  obtain ⟨o, l, rfl⟩ : ∃ (o l : Fin 128), y = ix2 o l := ⟨y 0, y 1, eq_ix2 y⟩
  rw [hit7_at, unsq_at]
  exact old_at c M10 g10 (k0_off2 i) _ ⟨1 - (i 0).val % 2, by omega⟩ (colOf i) (off2_eq i) o l

/-- The four stores of the running sums. -/
def H10F (M9 : Memref sig .tc .vmem S4x896x512 .bf16) (M10 : Memref sig .tc .vmem S2x4x128x128 .f32) (g9 : Bf (F := F) c M9) (g10 : Bf (F := F) c M10)
    (R : Vec F S128x896 .bf16) : List (View.Piece (Elt F) S2x4x128x128 .f32) :=
  let h := View.readAt (Elt F) M9.view (Rect.unit (s := S4x896x512) (k0_off5 i) S1x896x512.size (k0_off5_inb i)).toLoadRect g9
  [⟨Rect.unit (s := S2x4x128x128) (k0_off9 i) S1x1x128x128.size (k0_off9_inb i),
      k0_pay1 (k0_pay420 (BitVec.ofNat 32 (i 1).val) (k0_pay415 R h) (View.readAt (Elt F) M10.view (Rect.unit (s := S2x4x128x128) (k0_off9 i) S1x1x128x128.size (k0_off9_inb i)).toLoadRect g10))⟩,
   ⟨Rect.unit (s := S2x4x128x128) (k0_off8 i) S1x1x128x128.size (k0_off8_inb i),
      k0_pay419 (BitVec.ofNat 32 (i 1).val) (k0_pay415 R h) (View.readAt (Elt F) M10.view (Rect.unit (s := S2x4x128x128) (k0_off8 i) S1x1x128x128.size (k0_off8_inb i)).toLoadRect g10)⟩,
   ⟨Rect.unit (s := S2x4x128x128) (k0_off7 i) S1x1x128x128.size (k0_off7_inb i),
      k0_pay418 (BitVec.ofNat 32 (i 1).val) (k0_pay415 R h) (View.readAt (Elt F) M10.view (Rect.unit (s := S2x4x128x128) (k0_off7 i) S1x1x128x128.size (k0_off7_inb i)).toLoadRect g10)⟩,
   ⟨Rect.unit (s := S2x4x128x128) (k0_off6 i) S1x1x128x128.size (k0_off6_inb i),
      k0_pay417 (k0_pay416 (BitVec.ofNat 32 (i 1).val) R h (View.readAt (Elt F) M10.view (Rect.unit (s := S2x4x128x128) (k0_off6 i) S1x1x128x128.size (k0_off6_inb i)).toLoadRect g10))⟩]

/-- The selection between zero and the old sum is made by whether the column block is the first. -/
theorem sel_first (x : F .f32) : Scalar.select (Scalar.cmpi .eq (BitVec.ofNat 32 (i 1).val) 0#32) zro x = if (i 1).val = 0 then (zro : F .f32) else x := by
  unfold Scalar.select
  by_cases h : (i 1).val = 0
  · exact (if_pos ((first_iff i).mpr h)).trans (if_pos h).symm
  · exact (if_neg (fun hh => h ((first_iff i).mp hh))).trans (if_neg h).symm

/-- A store of the sums misses every place with another slot or another block. -/
theorem miss_at (M10 : Memref sig .tc .vmem S2x4x128x128 .f32) (g10 : Bf (F := F) c M10) (off : Fin 4 → ℕ) (inb) (w) (L) (a : Fin 2) (b : Fin 4) (ho : off = ![a.val, b.val, 0, 0])
    (y : S2x4x128x128.Idx) (hy : (y 0).val ≠ a.val ∨ (y 1).val ≠ b.val) :
    M10.view.read (Elt F) (M10.view.writes (Elt F) g10 (⟨Rect.unit (s := S2x4x128x128) off S1x1x128x128.size inb, w⟩ :: L)) y = M10.view.read (Elt F) (M10.view.writes (Elt F) g10 L) y := by
  subst ho
  rcases hy with hy | hy
  · exact View.read_writes_cons_miss_of_axis _ _ _ _ y 0 a.val 1 rfl rfl rfl (by omega)
  · exact View.read_writes_cons_miss_of_axis _ _ _ _ y 1 b.val 1 rfl rfl rfl (by omega)

/-- A store of the sums, read at one of its own places. -/
theorem hit_at (M10 : Memref sig .tc .vmem S2x4x128x128 .f32) (g10 : Bf (F := F) c M10) (off : Fin 4 → ℕ) (inb) (w : Vec F S1x1x128x128 .f32) (L) (a : Fin 2) (b : Fin 4) (ho : off = ![a.val, b.val, 0, 0])
    (o l : Fin 128) :
    M10.view.read (Elt F) (M10.view.writes (Elt F) g10 (⟨Rect.unit (s := S2x4x128x128) off S1x1x128x128.size inb, w⟩ :: L)) (ix4 a b o l) = w (ix4 0 0 o l) := by
  subst ho
  refine View.read_writes_cons_hit_of_coords _ _ (Rect.unit (s := S2x4x128x128) ![a.val, b.val, 0, 0] S1x1x128x128.size inb) w _ (ix4 0 0 o l) _ ?_
  intro d
  fin_cases d
  · show a.val = a.val + 1 * 0
    omega
  · show b.val = b.val + 1 * 0
    omega
  · show o.val = 0 + 1 * o.val
    omega
  · show l.val = 0 + 1 * l.val
    omega

/-- The running sums after the four column blocks are stored. -/
theorem read_sums (M9 : Memref sig .tc .vmem S4x896x512 .bf16) (M10 : Memref sig .tc .vmem S2x4x128x128 .f32) (g9 : Bf (F := F) c M9) (g10 : Bf (F := F) c M10)
    (R : Vec F S128x896 .bf16) :
    M10.view.read (Elt F) (M10.view.writes (Elt F) g10 (H10F c i M9 M10 g9 g10 R))
    = oSum i (M10.view.read (Elt F) g10) (dot R (hMat (M9.view.read (Elt F) g9) (stepOf i))) := by
  funext y
  obtain ⟨a, b, o, l, rfl⟩ : ∃ (a : Fin 2) (b : Fin 4) (o l : Fin 128), y = ix4 a b o l := ⟨y 0, y 1, y 2, y 3, eq_ix4 y⟩
  unfold H10F
  simp only []
  have hk6 : ∀ hh, k0_off6 i = ![(⟨(i 0).val % 2, hh⟩ : Fin 2).val, (0 : Fin 4).val, 0, 0] := fun _ => off6_eq i
  have hk7 : ∀ hh, k0_off7 i = ![(⟨(i 0).val % 2, hh⟩ : Fin 2).val, (1 : Fin 4).val, 0, 0] := fun _ => off7_eq i
  have hk8 : ∀ hh, k0_off8 i = ![(⟨(i 0).val % 2, hh⟩ : Fin 2).val, (2 : Fin 4).val, 0, 0] := fun _ => off8_eq i
  have hk9 : ∀ hh, k0_off9 i = ![(⟨(i 0).val % 2, hh⟩ : Fin 2).val, (3 : Fin 4).val, 0, 0] := fun _ => off9_eq i
  have hlt : (i 0).val % 2 < 2 := Nat.mod_lt _ (by norm_num)
  by_cases ha : a.val = (i 0).val % 2
  · obtain rfl : a = ⟨(i 0).val % 2, hlt⟩ := Fin.ext ha
    have hR : ∀ (n : ℕ) (hn : n + l.val < 512), n = 128 * b.val →
        FloatOps.addf (Scalar.select (Scalar.cmpi .eq (BitVec.ofNat 32 (i 1).val) 0#32) zro (M10.view.read (Elt F) g10 (ix4 ⟨(i 0).val % 2, hlt⟩ b o l)))
          (k0_pay415 R (View.readAt (Elt F) M9.view (Rect.unit (s := S4x896x512) (k0_off5 i) S1x896x512.size (k0_off5_inb i)).toLoadRect g9) (ix2 o ⟨n + l.val, hn⟩))
        = oSum i (M10.view.read (Elt F) g10) (dot R (hMat (M9.view.read (Elt F) g9) (stepOf i))) (ix4 ⟨(i 0).val % 2, hlt⟩ b o l) := by
      intro n hn e
      subst e
      rw [sel_first, dot_eq]
      unfold oSum
      exact (if_pos rfl).symm
    fin_cases b
    · refine (miss_at c M10 g10 _ _ _ _ _ _ (hk9 hlt) _ (Or.inr (fun hh => absurd (show (_ : ℕ) = _ from hh) (by simp)))).trans ?_
      refine (miss_at c M10 g10 _ _ _ _ _ _ (hk8 hlt) _ (Or.inr (fun hh => absurd (show (_ : ℕ) = _ from hh) (by simp)))).trans ?_
      refine (miss_at c M10 g10 _ _ _ _ _ _ (hk7 hlt) _ (Or.inr (fun hh => absurd (show (_ : ℕ) = _ from hh) (by simp)))).trans ?_
      refine (hit_at c M10 g10 _ _ _ _ _ _ (hk6 hlt) o l).trans ?_
      rw [pay416_at, old_at c M10 g10 _ _ _ _ (hk6 hlt)]
      exact hR 0 _ rfl
    · refine (miss_at c M10 g10 _ _ _ _ _ _ (hk9 hlt) _ (Or.inr (fun hh => absurd (show (_ : ℕ) = _ from hh) (by simp)))).trans ?_
      refine (miss_at c M10 g10 _ _ _ _ _ _ (hk8 hlt) _ (Or.inr (fun hh => absurd (show (_ : ℕ) = _ from hh) (by simp)))).trans ?_
      refine (hit_at c M10 g10 _ _ _ _ _ _ (hk7 hlt) o l).trans ?_
      rw [pay418_at, old_at c M10 g10 _ _ _ _ (hk7 hlt)]
      exact hR 128 _ rfl
    · refine (miss_at c M10 g10 _ _ _ _ _ _ (hk9 hlt) _ (Or.inr (fun hh => absurd (show (_ : ℕ) = _ from hh) (by simp)))).trans ?_
      refine (hit_at c M10 g10 _ _ _ _ _ _ (hk8 hlt) o l).trans ?_
      rw [pay419_at, old_at c M10 g10 _ _ _ _ (hk8 hlt)]
      exact hR 256 _ rfl
    · refine (hit_at c M10 g10 _ _ _ _ _ _ (hk9 hlt) o l).trans ?_
      rw [pay420_at, old_at c M10 g10 _ _ _ _ (hk9 hlt)]
      exact hR 384 _ rfl
  · refine (miss_at c M10 g10 _ _ _ _ _ _ (hk9 hlt) _ (Or.inl ha)).trans ?_
    refine (miss_at c M10 g10 _ _ _ _ _ _ (hk8 hlt) _ (Or.inl ha)).trans ?_
    refine (miss_at c M10 g10 _ _ _ _ _ _ (hk7 hlt) _ (Or.inl ha)).trans ?_
    refine (miss_at c M10 g10 _ _ _ _ _ _ (hk6 hlt) _ (Or.inl ha)).trans ?_
    unfold oSum
    exact (if_neg ha).symm

end Sums

end Cert.Kernel.Hand
end
-- ==== Proof.KRun.lean ====
module

public import proofs.«01_k».proof.Proof.KPieces

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise

variable {F : FTy → Type} [FloatOps F]

local notation "𝕄" => MT nD τ sig Unit (Elt F) ℕ (UR sig nD τ) ℕ

set_option sl_exec.squeezeSlice true
set_option sl_exec.resultNames true in
/-- One grid point: from the blocks and scratch contents it finds, the body ends with the contents that the value functions state, its input blocks unchanged. -/
theorem run (c : Dev nD) (i : grid0.Coords)
    (M2 : Memref sig .tc .vmem S128x896 .f32) (h2 : M2.IsWhole) (M3 : Memref sig .tc .vmem S1x2x448x128 .i8) (h3 : M3.IsWhole)
    (M4 : Memref sig .tc .vmem S2x8x256 .bf16) (h4 : M4.IsWhole) (M5 : Memref sig .tc .vmem S4x128 .f32) (h5 : M5.IsWhole)
    (M6 : Memref sig .tc .vmem S512x896 .f32) (h6 : M6.IsWhole) (M7 : Memref sig .tc .vmem S128x128 .f32) (h7 : M7.IsWhole)
    (M8 : Memref sig .tc .vmem S128x896 .bf16) (h8 : M8.IsWhole) (M9 : Memref sig .tc .vmem S4x896x512 .bf16) (h9 : M9.IsWhole)
    (M10 : Memref sig .tc .vmem S2x4x128x128 .f32) (h10 : M10.IsWhole) (M11 : Memref sig .tc .vmem S4x448x128 .i32) (h11 : M11.IsWhole)
    (M12 : Memref sig .tc .vmem S2x2x8x128 .f32) (h12 : M12.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9) (f10 : Bf (F := F) c M10) (f11 : Bf (F := F) c M11)
    (f12 : Bf (F := F) c M12)
    (E : Set ℕ) (Q : PUnit → sProp 𝕄) :
    iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12
      ∗ (∀ g7 g8 g9 g10 g11 g12, ⌜M9.view.read (Elt F) g9 = nH i (M6.view.read (Elt F) f6) (M9.view.read (Elt F) f9)
            ∧ M11.view.read (Elt F) g11 = nIdx i (M3.view.read (Elt F) f3) (M11.view.read (Elt F) f11)
            ∧ M12.view.read (Elt F) g12 = nTab i (M4.view.read (Elt F) f4) (M12.view.read (Elt F) f12)
            ∧ M7.view.read (Elt F) g7 = oP i (nSum i (M10.view.read (Elt F) f10))
            ∧ M8.view.read (Elt F) g8 = rv i (M2.view.read (Elt F) f2) (M5.view.read (Elt F) f5) (M11.view.read (Elt F) g11) (M12.view.read (Elt F) g12)
            ∧ M10.view.read (Elt F) g10 = oSum i (nSum i (M10.view.read (Elt F) f10)) (dot (M8.view.read (Elt F) g8) (hMat (M9.view.read (Elt F) g9) (stepOf i)))⌝
          -∗ (pt c M2 f2 ∗ pt c M3 f3 ∗ pt c M4 f4 ∗ pt c M5 f5 ∗ pt c M6 f6 ∗ pt c M7 g7 ∗ pt c M8 g8 ∗ pt c M9 g9 ∗ pt c M10 g10 ∗ pt c M11 g11 ∗ pt c M12 g12)
          -∗ Q ⟨⟩))
    ⊢ wp frame (wpE (defs₀ (F := F)) Variants.none c none) E
        (cc0_aqlm_scores i M2 h2 M3 h3 M4 h4 M5 h5 M6 h6 M7 h7 M8 h8 M9 h9 M10 h10 M11 h11 M12 h12) Q := by
  iintro ⟨H2, H3, H4, H5, H6, H7, H8, H9, H10, H11, H12, Hk⟩
  unfold cc0_aqlm_scores k0_part137
  rw [wp_bind, wp_bind]
  iapply (prep c i M2 h2 M3 h3 M4 h4 M5 h5 M6 h6 M7 h7 M8 h8 M9 h9 M10 h10 M11 h11 M12 h12 f3 f4 f6 f9 f10 f11 f12 E _)
  isplitl [H3]; iexact H3
  isplitl [H4]; iexact H4
  isplitl [H6]; iexact H6
  isplitl [H9]; iexact H9
  isplitl [H10]; iexact H10
  isplitl [H11]; iexact H11
  isplitl [H12]; iexact H12
  iintro %g9 %g10 %g11 %g12 %r %hr ⟨H3, H4, H6, H9, H10, H11, H12⟩
  obtain ⟨e9, e10, e11, e12, er⟩ := hr
  subst er
  rw [← wp_bind]
  sl_exec_parts
  sl_step
  iapply Hk $$ %(M7.view.writes (Elt F) f7 [⟨Rect.unit (s := S128x128) ![0, 0] S128x128.size inb_S128x128_S128x128_0_0,
      shapeCast S128x128 (View.readAt (Elt F) M10.view (Rect.unit (s := S2x4x128x128) (k0_off2 i) S1x1x128x128.size (k0_off2_inb i)).toLoadRect g10) shapeCasts_S1x1x128x128_S128x128⟩])
    %(M8.view.writes (Elt F) f8 (H8F c i M2 M5 M11 M12 f2 f5 g11 g12))
    %g9
    %(M10.view.writes (Elt F) g10 (H10F c i M9 M10 g9 g10 (M8.view.readCov (H8F c i M2 M5 M11 M12 f2 f5 g11 g12) (Rect.unit (s := S128x896) ![0, 0] S128x896.size inb_S128x896_S128x896_0_0).toLoadRect)))
    %g11 %g12 [] [H2 H3 H4 H5 H6 H7 H8 H9 H10 H11 H12]
  · ipureintro
    refine ⟨e9, e11, e12, ?_, read_r c i M2 M5 M11 M12 f2 f5 g11 g12 M8 f8, ?_⟩
    · rw [← e10]
      exact read_p c i M7 M10 f7 g10
    · rw [← e10, read_r, readCov_r]
      exact read_sums c i M9 M10 g9 g10 _
  · isplitl [H2]; iexact H2
    isplitl [H3]; iexact H3
    isplitl [H4]; iexact H4
    isplitl [H5]; iexact H5
    isplitl [H6]; iexact H6
    isplitl [H7]; iexact H7
    isplitl [H8]; iexact H8
    isplitl [H9]; iexact H9
    isplitl [H10]; iexact H10
    isplitl [H11]; iexact H11
    iexact H12

end Cert.Kernel.Hand
end
-- ==== Proof.KState.lean ====
module

public import proofs.«01_k».proof.Proof.KWords

@[expose] public section

noncomputable section

namespace Cert.Kernel.Hand

open Cert.Kernel Cert.Kernel.Gen
open Idealize.ShloMosaic
open Idealize.ShloMosaic.TcCoe Idealize.ShloMosaic.Tactic
open Idealize.ShloMosaic.Pointwise

variable {F : FTy → Type} [FloatOps F]

/-! ## What the grid points build up

Point `t` is column block `t % 4` of tile `t / 4`; `X2` … `X6` are the blocks the points read. -/

/-- Point `t` belongs to tile `t / 4`. -/
theorem co0 : ∀ t : Fin grid0.N, (grid0.coords t 0).val = t.val / 4 := by decide +kernel
/-- Point `t` is the tile's step `t % 4`. -/
theorem co1 : ∀ t : Fin grid0.N, (grid0.coords t 1).val = t.val % 4 := by decide +kernel

/-- Point number `n`. -/
def pt' (n : ℕ) : Fin grid0.N := ⟨min n 147, lt_of_lt_of_eq (by omega : min n 147 < 148) (by decide +kernel)⟩

/-- There are 148 points. -/
theorem lt148 (t : Fin grid0.N) : t.val < 148 := lt_of_lt_of_eq t.isLt (by decide +kernel)
/-- The point with the number of a point is that point. -/
theorem pt'_val (t : Fin grid0.N) (n : ℕ) (h : n = t.val) : pt' n = t := by
  have := lt148 t
  exact Fin.ext (show min n 147 = t.val by omega)

section State
variable (X2 : Fin grid0.N → Vec F S128x896 .f32) (X3 : Fin grid0.N → Vec F S1x2x448x128 .i8) (X4 : Fin grid0.N → Vec F S2x8x256 .bf16)
  (X5 : Fin grid0.N → Vec F S4x128 .f32) (X6 : Fin grid0.N → Vec F S512x896 .f32)

/-- The codebook tables. -/
def TAB : Vec F S2x2x8x128 .f32 := mkTab (X4 (pt' 0))
/-- The index rows of a tile. -/
def IDX (i : ℕ) : Vec F S4x448x128 .i32 := mkIdx (X3 (pt' (4 * i)))
/-- A column block of the rounded `h`. -/
def HM (k : ℕ) : Vec F S896x512 .bf16 := fun j => mkH (X6 (pt' k)) (j 0) (j 1)
/-- The rounded remainder block of a point. -/
def RB (t : Fin grid0.N) : Vec F S128x896 .bf16 := rv (grid0.coords t) (X2 t) (X5 t) (IDX X3 (t.val / 4)) (TAB X4)
/-- The product of a point. -/
def DD (t : Fin grid0.N) : Vec F S128x512 .f32 := dot (RB X2 X3 X4 X5 t) (HM X6 (stepOf (grid0.coords t)).val)
/-- The running sum of a tile after `n` of its points. -/
def PS (i : ℕ) : ℕ → Fin 4 → Fin 128 → Fin 128 → F .f32
  | 0 => fun _ _ _ => zro
  | n + 1 => fun b o l => FloatOps.addf (PS i n b o l) (DD X2 X3 X4 X5 X6 (pt' (4 * i + n)) (ix2 o ⟨128 * b.val + l.val, by omega⟩))
/-- What a point leaves in the output block of the products: the finished sum of the tile before. -/
def OB (t : Fin grid0.N) : Vec F S128x128 .f32 := fun j =>
  if t.val / 4 = 0 then zro else PS X2 X3 X4 X5 X6 (t.val / 4 - 1) 4 (colOf (grid0.coords t)) (j 0) (j 1)

/-- What the scratch holds before point `n`. -/
structure Inv (n : ℕ) (x9 : Vec F S4x896x512 .bf16) (x10 : Vec F S2x4x128x128 .f32) (x11 : Vec F S4x448x128 .i32) (x12 : Vec F S2x2x8x128 .f32) : Prop where
  tab : 1 ≤ n → x12 = TAB X4
  idx : n % 4 ≠ 0 → x11 = IDX X3 (n / 4)
  h : ∀ k : Fin 4, k.val < n → ∀ d e, x9 (ix3 k d e) = HM X6 k.val (ix2 d e)
  cur : n % 4 ≠ 0 → ∀ a : Fin 2, a.val = n / 4 % 2 → ∀ b o l, x10 (ix4 a b o l) = PS X2 X3 X4 X5 X6 (n / 4) (n % 4) b o l
  old : 1 ≤ n → ∀ a : Fin 2, a.val = 1 - n / 4 % 2 → ∀ b o l, x10 (ix4 a b o l) = if n / 4 = 0 then zro else PS X2 X3 X4 X5 X6 (n / 4 - 1) 4 b o l

/-- Before the first point nothing is asked. -/
theorem inv_zero (x9 x10 x11 x12) : Inv X2 X3 X4 X5 X6 0 x9 x10 x11 x12 :=
  ⟨fun h => absurd h (by omega), fun h => absurd rfl h, fun k h => absurd h (by omega), fun h => absurd rfl h, fun h => absurd h (by omega)⟩

variable {X2 X3 X4 X5 X6}

/-- After its preparation a point finds the codebook tables. -/
theorem tab_step (t : Fin grid0.N) (x9 x10 x11 x12) (hI : Inv X2 X3 X4 X5 X6 t.val x9 x10 x11 x12) : nTab (grid0.coords t) (X4 t) x12 = TAB X4 := by
  unfold nTab
  rw [co0, co1]
  by_cases h : t.val = 0
  · rw [if_pos (by omega)]
    unfold TAB
    rw [pt'_val t 0 h.symm]
  · rw [if_neg (by omega)]
    exact hI.tab (by omega)

/-- After its preparation a point finds its tile's index rows. -/
theorem idx_step (t : Fin grid0.N) (x9 x10 x11 x12) (hI : Inv X2 X3 X4 X5 X6 t.val x9 x10 x11 x12) : nIdx (grid0.coords t) (X3 t) x11 = IDX X3 (t.val / 4) := by
  unfold nIdx
  rw [co1]
  by_cases h : t.val % 4 = 0
  · rw [if_pos h]
    unfold IDX
    rw [pt'_val t _ (by omega)]
  · rw [if_neg h]
    exact hI.idx h

/-- After its preparation a point finds every column block of the activations that has been loaded so far. -/
theorem h_step (t : Fin grid0.N) (x9 x10 x11 x12) (hI : Inv X2 X3 X4 X5 X6 t.val x9 x10 x11 x12) (k : Fin 4) (hk : k.val < t.val + 1) (d e) :
    nH (grid0.coords t) (X6 t) x9 (ix3 k d e) = HM X6 k.val (ix2 d e) := by
  unfold nH
  rw [co0, co1]
  by_cases h : t.val / 4 = 0 ∧ k.val = t.val % 4
  · refine (if_pos h).trans ?_
    unfold HM
    rw [pt'_val t _ (by omega)]
    rfl
  · refine (if_neg h).trans ?_
    exact hI.h k (by omega) d e

/-- A point works on a column block that has been loaded. -/
theorem step_lt (t : Fin grid0.N) : (stepOf (grid0.coords t)).val < t.val + 1 := by
  unfold stepOf
  have h0 := co0 t
  have h1 := co1 t
  split
  · show (grid0.coords t 1).val < _
    omega
  · show 3 < _
    omega

/-- The column block of the activations that a point multiplies by. -/
theorem mat_step (t : Fin grid0.N) (x9 x10 x11 x12) (hI : Inv X2 X3 X4 X5 X6 t.val x9 x10 x11 x12) :
    hMat (nH (grid0.coords t) (X6 t) x9) (stepOf (grid0.coords t)) = HM X6 (stepOf (grid0.coords t)).val := by
  funext j
  obtain ⟨d, e, rfl⟩ : ∃ (d : Fin 896) (e : Fin 512), j = ix2 d e := ⟨j 0, j 1, eq_ix2 j⟩
  exact h_step t x9 x10 x11 x12 hI (stepOf (grid0.coords t)) (step_lt t) d e

/-- The other slot holds the finished sums of the tile before. -/
theorem old_step (t : Fin grid0.N) (x9 x10 x11 x12) (hI : Inv X2 X3 X4 X5 X6 t.val x9 x10 x11 x12) (a : Fin 2) (ha : a.val = 1 - t.val / 4 % 2) (b o l) :
    nSum (grid0.coords t) x10 (ix4 a b o l) = if t.val / 4 = 0 then zro else PS X2 X3 X4 X5 X6 (t.val / 4 - 1) 4 b o l := by
  unfold nSum
  rw [co0, co1]
  by_cases h : t.val = 0
  · rw [if_pos (by omega), if_pos (by omega)]
  · rw [if_neg (by omega)]
    exact hI.old (by omega) a ha b o l

/-- The block of products that a point writes is the one stated. -/
theorem out_step (t : Fin grid0.N) (x9 x10 x11 x12) (hI : Inv X2 X3 X4 X5 X6 t.val x9 x10 x11 x12) : oP (grid0.coords t) (nSum (grid0.coords t) x10) = OB X2 X3 X4 X5 X6 t := by
  funext j
  have h0 := co0 t
  exact old_step t x9 x10 x11 x12 hI ⟨1 - (grid0.coords t 0).val % 2, by omega⟩ (by show 1 - (grid0.coords t 0).val % 2 = _; rw [h0]) _ _ _

/-- A point carries the invariant of the scratch to the next point. -/
theorem inv_step (t : Fin grid0.N) (x9 x10 x11 x12) (hI : Inv X2 X3 X4 X5 X6 t.val x9 x10 x11 x12) :
    Inv X2 X3 X4 X5 X6 (t.val + 1) (nH (grid0.coords t) (X6 t) x9) (oSum (grid0.coords t) (nSum (grid0.coords t) x10) (DD X2 X3 X4 X5 X6 t))
      (nIdx (grid0.coords t) (X3 t) x11) (nTab (grid0.coords t) (X4 t) x12) := by
  have h0 := co0 t
  have h1 := co1 t
  have hcur : ∀ a : Fin 2, a.val = t.val / 4 % 2 → ∀ b o l, oSum (grid0.coords t) (nSum (grid0.coords t) x10) (DD X2 X3 X4 X5 X6 t) (ix4 a b o l)
      = PS X2 X3 X4 X5 X6 (t.val / 4) (t.val % 4 + 1) b o l := by
    intro a ha b o l
    unfold oSum
    rw [h0, h1]
    refine (if_pos ha).trans ?_
    show FloatOps.addf _ _ = FloatOps.addf _ _
    rw [pt'_val t _ (by omega)]
    refine congrArg₂ _ ?_ rfl
    by_cases hz : t.val % 4 = 0
    · rw [if_pos hz, hz]
      rfl
    · rw [if_neg hz]
      unfold nSum
      rw [h0, h1, if_neg (by omega)]
      exact hI.cur hz a ha b o l
  refine ⟨fun _ => tab_step t x9 x10 x11 x12 hI, fun h => ?_, fun k hk d e => h_step t x9 x10 x11 x12 hI k hk d e, fun h a ha b o l => ?_, fun _ a ha b o l => ?_⟩
  · rw [idx_step t x9 x10 x11 x12 hI]
    exact congrArg _ (by omega)
  · have e := hcur a (by omega) b o l
    rw [show (t.val + 1) / 4 = t.val / 4 by omega, show (t.val + 1) % 4 = t.val % 4 + 1 by omega]
    exact e
  · by_cases hl : t.val % 4 = 3
    · have e := hcur a (by omega) b o l
      rw [hl] at e
      rw [if_neg (by omega), show (t.val + 1) / 4 - 1 = t.val / 4 by omega]
      exact e
    · rw [show (t.val + 1) / 4 = t.val / 4 by omega]
      refine Eq.trans ?_ (old_step t x9 x10 x11 x12 hI a (by omega) b o l)
      unfold oSum
      rw [h0]
      exact if_neg (show ¬ a.val = t.val / 4 % 2 by omega)

end State

end Cert.Kernel.Hand
end
-- ==== Proof.KBody.lean ====
module

public import proofs.«01_k».proof.Proof.KRun
public import proofs.«01_k».proof.Proof.KState
public import proofs.«01_k».proof.Proof.Gen.Kernel.Frame
public import Idealize.ShloMosaic.Lib.Pipeline.Frame

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks the points read -/

/-- The block of weights a point reads. -/
abbrev B2 (c : Dev nD) : Fin grid0.N → Vec F S128x896 .f32 := fun t => iblk m c 0 t
/-- The block of codes a point reads. -/
abbrev B3 (c : Dev nD) : Fin grid0.N → Vec F S1x2x448x128 .i8 := fun t => iblk m c 1 t
/-- The block of codebooks a point reads. -/
abbrev B4 (c : Dev nD) : Fin grid0.N → Vec F S2x8x256 .bf16 := fun t => iblk m c 2 t
/-- The block of scales a point reads. -/
abbrev B5 (c : Dev nD) : Fin grid0.N → Vec F S4x128 .f32 := fun t => iblk m c 3 t
/-- The block of activations a point reads. -/
abbrev B6 (c : Dev nD) : Fin grid0.N → Vec F S512x896 .f32 := fun t => iblk m c 4 t

/-! ## The proof data -/

/-- The scratch of the rounded activations. -/
abbrev sc9 : Memref sig .tc .vmem S4x896x512 .bf16 := Memref.whole cc0_scratch0
/-- The scratch of the running sums. -/
abbrev sc10 : Memref sig .tc .vmem S2x4x128x128 .f32 := Memref.whole cc0_scratch1
/-- The scratch of the index rows. -/
abbrev sc11 : Memref sig .tc .vmem S4x448x128 .i32 := Memref.whole cc0_scratch2
/-- The scratch of the codebook tables. -/
abbrev sc12 : Memref sig .tc .vmem S2x2x8x128 .f32 := Memref.whole cc0_scratch3

/-- The invariant before point `n`: the four scratch buffers, of which `Inv` tells what is known, and the generator register. -/
def Phi (c : Dev nD) (n : ℕ) : sProp 𝕄 :=
  iprop(∃ (f9 : Bf (F := F) c sc9) (f10 : Bf (F := F) c sc10) (f11 : Bf (F := F) c sc11) (f12 : Bf (F := F) c sc12),
    ⌜Inv (B2 m c) (B3 m c) (B4 m c) (B5 m c) (B6 m c) n (sc9.view.read (Elt F) f9) (sc10.view.read (Elt F) f10) (sc11.view.read (Elt F) f11) (sc12.view.read (Elt F) f12)⌝
    ∗ pt c sc9 f9 ∗ pt c sc10 f10 ∗ pt c sc11 f11 ∗ pt c sc12 f12 ∗ (∃ r, prngReg c r))

/-- The proof data on core `c`: each array as the region finds it; the input blocks left in place, the output blocks the products
    of the tile before and the rounded remainder; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => OB (B2 m c) (B3 m c) (B4 m c) (B5 m c) (B6 m c) t
    | ⟨6, _⟩ => RB (B2 m c) (B3 m c) (B4 m c) (B5 m c) t
    | ⟨n + 7, h⟩ => absurd (show n + 7 < 7 from h) (by omega)
  Φ t := Phi m c t.val
  q _ := fullShare
  owed _ := 0

/-- Each array begins as the region finds it. -/
theorem A_eq (c : Dev nD) (w : Fin cfg0.W) : (dats m 0 c).A w = V m c (Pipeline.arrRef spec0 w) := by dsimp only [dats]

/-! ## The body at a point -/

/-- What the body is handed. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The weight block is in place before the body. -/
theorem bef0 (c : Dev nD) (t : Fin cfg0.N) (d) : (dats m 0 c).before 0 t d = B2 m c t := before0_0_of m (dats m 0 c) (A_eq m c 0) (fun _ => rfl) t d
/-- The code block is in place before the body. -/
theorem bef1 (c : Dev nD) (t : Fin cfg0.N) (d) : (dats m 0 c).before 1 t d = B3 m c t := before0_1_of m (dats m 0 c) (A_eq m c 1) (fun _ => rfl) t d
/-- The codebook block is in place before the body. -/
theorem bef2 (c : Dev nD) (t : Fin cfg0.N) (d) : (dats m 0 c).before 2 t d = B4 m c t := before0_2_of m (dats m 0 c) (A_eq m c 2) (fun _ => rfl) t d
/-- The scale block is in place before the body. -/
theorem bef3 (c : Dev nD) (t : Fin cfg0.N) (d) : (dats m 0 c).before 3 t d = B5 m c t := before0_3_of m (dats m 0 c) (A_eq m c 3) (fun _ => rfl) t d
/-- The activation block is in place before the body. -/
theorem bef4 (c : Dev nD) (t : Fin cfg0.N) (d) : (dats m 0 c).before 4 t d = B6 m c t := before0_4_of m (dats m 0 c) (A_eq m c 4) (fun _ => rfl) t d

/-- A whole memref owned at a value: its buffer at some contents that read as the value. -/
theorem owns_pt (c : Dev nD) {sp : Space} {S : Shape} {e : EltTy} (M : Memref sig .tc sp S e) (h : M.IsWhole) (d : Vec F S e) :
    (owns (c : Thread nD τ) M fullShare d : sProp 𝕄) = iprop(∃ f : Bf (F := F) c M, ⌜M.view.read (Elt F) f = d⌝ ∗ pt c M f) := by
  unfold owns
  rw [h.set_eq_univ]

/-- The body at a point: `run` on the blocks and the scratch the invariant hands it, the invariant closed by `inv_step`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.castSucc = Phi m c t.val from rfl, show (dats m 0 c).Φ t.succ = Phi m c (t.val + 1) from rfl,
    show (dats m 0 c).after 0 t = B2 m c t from rfl, show (dats m 0 c).after 1 t = B3 m c t from rfl, show (dats m 0 c).after 2 t = B4 m c t from rfl,
    show (dats m 0 c).after 3 t = B5 m c t from rfl, show (dats m 0 c).after 4 t = B6 m c t from rfl,
    show (dats m 0 c).after 5 t = OB (B2 m c) (B3 m c) (B4 m c) (B5 m c) (B6 m c) t from rfl,
    show (dats m 0 c).after 6 t = RB (B2 m c) (B3 m c) (B4 m c) (B5 m c) t from rfl]
  simp only [bef0, bef1, bef2, bef3, bef4]
  unfold Phi
  simp only [owns_pt c (st0_0 t) (hstage0_0 ((cfg0.slots t 0).cast nbuf0_0)), owns_pt c (st0_1 t) (hstage0_1 ((cfg0.slots t 1).cast nbuf0_1)),
    owns_pt c (st0_2 t) (hstage0_2 ((cfg0.slots t 2).cast nbuf0_2)), owns_pt c (st0_3 t) (hstage0_3 ((cfg0.slots t 3).cast nbuf0_3)),
    owns_pt c (st0_4 t) (hstage0_4 ((cfg0.slots t 4).cast nbuf0_4)), owns_pt c (st0_5 t) (hstage0_5 ((cfg0.slots t 5).cast nbuf0_5)),
    owns_pt c (st0_6 t) (hstage0_6 ((cfg0.slots t 6).cast nbuf0_6))]
  iintro ⟨⟨%f9, %f10, %f11, %f12, %hI, H9, H10, H11, H12, Hg⟩, HO, ⟨%d2, %f2, %e2, H2⟩, ⟨%d3, %f3, %e3, H3⟩, ⟨%d4, %f4, %e4, H4⟩,
    ⟨%d5, %f5, %e5, H5⟩, ⟨%d6, %f6, %e6, H6⟩, ⟨%d7, %f7, -, H7⟩, ⟨%d8, %f8, -, H8⟩⟩
  iapply (run c (grid0.coords t) (st0_0 t) _ (st0_1 t) _ (st0_2 t) _ (st0_3 t) _ (st0_4 t) _ (st0_5 t) _ (st0_6 t) _ sc9 _ sc10 _ sc11 _ sc12 _
    f2 f3 f4 f5 f6 f7 f8 f9 f10 f11 f12 Set.univ _)
  isplitl [H2]; iexact H2
  isplitl [H3]; iexact H3
  isplitl [H4]; iexact H4
  isplitl [H5]; iexact H5
  isplitl [H6]; iexact H6
  isplitl [H7]; iexact H7
  isplitl [H8]; iexact H8
  isplitl [H9]; iexact H9
  isplitl [H10]; iexact H10
  isplitl [H11]; iexact H11
  isplitl [H12]; iexact H12
  iintro %g7 %g8 %g9 %g10 %g11 %g12 %hr ⟨H2, H3, H4, H5, H6, H7, H8, H9, H10, H11, H12⟩
  obtain ⟨r9, r11, r12, r7, r8, r10⟩ := hr
  rw [e6] at r9
  rw [e3] at r11
  rw [e4] at r12
  rw [out_step t _ _ _ _ hI] at r7
  have r8' : (st0_6 t).view.read (Elt F) g8 = RB (B2 m c) (B3 m c) (B4 m c) (B5 m c) t := by
    rw [r8, r11, r12, e2, e5, idx_step t _ _ _ _ hI, tab_step t _ _ _ _ hI]
    rfl
  rw [r8', r9, mat_step t _ _ _ _ hI] at r10
  isplitl [H9 H10 H11 H12 Hg]
  · iexists g9, g10, g11, g12
    isplitr
    · ipureintro
      rw [r9, r10, r11, r12]
      exact inv_step t _ _ _ _ hI
    · isplitl [H9]; iexact H9
      isplitl [H10]; iexact H10
      isplitl [H11]; iexact H11
      isplitl [H12]; iexact H12
      iexact Hg
  isplitl [HO]; iexact HO
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists g7; isplitr; · ipureintro; exact r7
    iexact H7
  iexists g8; isplitr; · ipureintro; exact r8'
  iexact H8

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- The scratch at entry satisfies the invariant of the first point. -/
theorem hin (c : Dev nD) : Pipeline.ΦA spec0 c ⊢ (dats (F := F) m 0 c).Φ 0 := by
  rw [show (dats m 0 c).Φ 0 = Phi m c 0 from rfl]
  unfold Pipeline.ΦA Phi
  rw [scopedRest0_eq]
  iintro ⟨⟨⟨%f9, H9⟩, ⟨%f10, H10⟩, ⟨%f11, H11⟩, ⟨%f12, H12⟩⟩, Hg⟩
  iexists f9, f10, f11, f12
  isplitr
  · ipureintro
    exact inv_zero _ _ _ _ _ _ _ _ _
  isplitl [H9]; iexact H9
  isplitl [H10]; iexact H10
  isplitl [H11]; iexact H11
  isplitl [H12]; iexact H12
  iexact Hg

/-- The invariant after the last point gives the scratch back. -/
theorem hout (c : Dev nD) : (dats (F := F) m 0 c).Φ (Fin.last cfg0.N) ⊢ Pipeline.ΦA spec0 c := by
  rw [show (dats m 0 c).Φ (Fin.last cfg0.N) = Phi m c cfg0.N from rfl]
  unfold Pipeline.ΦA Phi
  rw [scopedRest0_eq]
  iintro ⟨%f9, %f10, %f11, %f12, -, H9, H10, H11, H12, Hg⟩
  isplitl [H9 H10 H11 H12]
  · isplitl [H9]
    · iexists f9; iexact H9
    isplitl [H10]
    · iexists f10; iexact H10
    isplitl [H11]
    · iexists f11; iexact H11
    iexists f12; iexact H12
  iexact Hg

set_option backward.isDefEq.respectTransparency.types false in
/-- From any memory with zero counters every run of the program ends, each window's array as the proof data says, every other
    buffer as the region found it, and every counter at zero again. -/
theorem run_main :
    θ_run defs (onTc (τ := τ) (main (F := F))) (s₀ m ρ)
      (fun r => Pipeline.FramePost cfgs (dats m) 0 (V m) r ∧ r.2.sem = fun _ => 0) :=
  Pipeline.θ_run_frame_track cfgs (dats m) (0 : Fin 1) launch0 defs₀ Variants.none m ρ main
    (Q' := fun r => Pipeline.FramePost cfgs (dats m) 0 (V m) r ∧ r.2.sem = fun _ => 0)
    (hbody := fun c => (body_obligation m c).loose) (hshare := fun c => (dats m 0 c).share_full fun _ => rfl)
    (howed := fun _ _ => rfl) (V := V m) (hmain := hmain m Variants.none) (hA := A_eq m)
    (hin := hin m) (hout := hout m)

/-- The five argument arrays end as they began. -/
theorem args_of {r} (h : Pipeline.FramePost cfgs (dats (F := F) m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).1 3).trans (((dats m 0 c).arrAt_in 3 rfl _).trans ((A_eq m c 3).trans (V_main_arg3 m c))),
   ((h c).2 main_arg4 (Pipeline.mem_restRefs_of main_arg4 (by decide) (by decide))).trans (V_main_arg4 m c)⟩

end Cert.Kernel.Hand
end
-- ==== Proof.RefRun.lean ====
module

public import proofs.«01_k».proof.Proof.Gen.ReferenceIdeal
public import Idealize.ShloMosaic.Lib.Claim
public import Idealize.ShloMosaic.Lib.Quiescent
public import Idealize.ShloMosaic.Lib.Pointwise
public import Idealize.ShloMosaic.Lib.Tactic.CleanTypes

@[expose] public section

noncomputable section

open Idealize.ShloMosaic Idealize.ShloMosaic.TcCoe Idealize.SL.Sem Idealize.ShloMosaic.StableHlo

namespace Cert.ReferenceIdeal.Hand

open Cert.ReferenceIdeal Cert.ReferenceIdeal.Gen

variable {F : FTy → Type} [FloatOps F]

/-- The pair table: row `256·a + b` is the sum of row `a` of the first codebook and row `b` of the second. -/
def pairT (cb : Vec F S2x256x8 .bf16) : Vec F S65536x8 .f32 :=
  shapeCast S65536x8 (addf
    (broadcastInDim S256x256x8 ![0, 1, 2] bcast_S256x1x8_S256x256x8_0_1_2 (broadcastInDim S256x1x8 ![0, 2] bcast_S256x8_S256x1x8_0_2
      (shapeCast S256x8 (extractStridedSlice S1x256x8 ![0, 0, 0] (extf .f32 cb bitsLt_bf16_f32) slices_S2x256x8_S1x256x8_0_0_0) shapeCasts_S1x256x8_S256x8)))
    (broadcastInDim S256x256x8 ![0, 1, 2] bcast_S1x256x8_S256x256x8_0_1_2 (broadcastInDim S1x256x8 ![1, 2] bcast_S256x8_S1x256x8_1_2
      (shapeCast S256x8 (extractStridedSlice S1x256x8 ![1, 0, 0] (extf .f32 cb bitsLt_bf16_f32) slices_S2x256x8_S1x256x8_1_0_0) shapeCasts_S1x256x8_S256x8))))
    shapeCasts_S256x256x8_S65536x8

/-- The pair index `256·ci₀ + ci₁` of the two codes of a group. -/
def ixT (codes : IVec S4x1152x448x2 8) : IVec S4x1152x448 32 :=
  addi (muli (shapeCast S4x1152x448 (extractStridedSlice S4x1152x448x1 ![0, 0, 0, 0] (extui 32 codes natLt_8_32) slices_S4x1152x448x2_S4x1152x448x1_0_0_0_0) shapeCasts_S4x1152x448x1_S4x1152x448)
      (broadcastInDim S4x1152x448 ![] bcast_S_S4x1152x448 (constantI S_ 32 256#32)))
    (shapeCast S4x1152x448 (extractStridedSlice S4x1152x448x1 ![0, 0, 0, 1] (extui 32 codes natLt_8_32) slices_S4x1152x448x2_S4x1152x448x1_0_0_0_1) shapeCasts_S4x1152x448x1_S4x1152x448)

/-- The index as the lookup takes it: 65536 added to a negative one, a trailing axis of length one. -/
def wrapT (ix : IVec S4x1152x448 32) : IVec S4x1152x448x1 32 :=
  broadcastInDim S4x1152x448x1 ![0, 1, 2] bcast_S4x1152x448_S4x1152x448x1_0_1_2
    (select (cmpi .slt ix (broadcastInDim S4x1152x448 ![] bcast_S_S4x1152x448 (constantI S_ 32 0#32)))
      (addi ix (broadcastInDim S4x1152x448 ![] bcast_S_S4x1152x448 (constantI S_ 32 65536#32))) ix)

/-- Whether the index lies within the table. -/
def insideT (x5 : IVec S4x1152x448x1 32) : IVec S4x1152x448 1 :=
  Host.reduce IntOp.andi
    (andi (cmpi .sge x5 (broadcastInDim S4x1152x448x1 ![] bcast_S_S4x1152x448x1 (constantI S_ 32 0#32)))
      (cmpi .sle x5 (broadcastInDim S4x1152x448x1 ![0, 1, 2, 3] bcast_S1x1x1x1_S4x1152x448x1_0_1_2_3 (broadcastInDim S1x1x1x1 ![3] bcast_S1_S1x1x1x1_3 (constantI S1 32 65535#32)))))
    (constantI S_ 1 1#1) reducesTo_S4x1152x448x1_S4x1152x448_d3 h_S_

/-- The table's rows looked up at the indices. -/
def takeT (tbl : Vec F S65536x8 .f32) (ix : IVec S4x1152x448 32) : Vec F S4x1152x448x8 .f32 :=
  select (broadcastInDim S4x1152x448x8 ![0, 1, 2] bcast_S4x1152x448_S4x1152x448x8_0_1_2 (insideT (wrapT ix)))
    (Host.gather gather_S65536x8_S4x1152x448x1_S4x1152x448x8_3_0_n_n_0_3_18 tbl (wrapT ix))
    (broadcastInDim S4x1152x448x8 ![] bcast_S_S4x1152x448x8 (constant S_ .f32 0x7FC00000#32))

/-- The residual: the weights less the scaled sums of codebook entries, rounded to bf16. -/
def rT (w : Vec F S4x1152x3584 .f32) (codes : IVec S4x1152x448x2 8) (cb : Vec F S2x256x8 .bf16) (s : Vec F S4x1152 .f32) : Vec F S4x1152x3584 .bf16 :=
  truncf .bf16 (subf w (shapeCast S4x1152x3584
    (mulf (broadcastInDim S4x1152x448x8 ![0, 1, 2, 3] bcast_S4x1152x1x1_S4x1152x448x8_0_1_2_3 (broadcastInDim S4x1152x1x1 ![0, 1] bcast_S4x1152_S4x1152x1x1_0_1 s))
      (takeT (pairT cb) (ixT codes))) shapeCasts_S4x1152x448x8_S4x1152x3584)) bitsLt_bf16_f32

/-- The product of the residual with the chunk. -/
def pT (r : Vec F S4x1152x3584 .bf16) (h : Vec F S3584x64x8 .f32) : Vec F S4x1152x64x8 .f32 :=
  Host.dotGeneral dot_S4x1152x3584_S3584x64x8_S4x1152x64x8_2_0_01_12_n_n none r (truncf .bf16 h bitsLt_bf16_f32)

/-- The first result. -/
def outP (w : Vec F S4x1152x3584 .f32) (codes : IVec S4x1152x448x2 8) (cb : Vec F S2x256x8 .bf16) (s : Vec F S4x1152 .f32) (h : Vec F S3584x64x8 .f32) : Vec F S4608x512 .f32 :=
  shapeCast S4608x512 (pT (rT w codes cb s) h) shapeCasts_S4x1152x64x8_S4608x512

/-- The second result. -/
def outR (w : Vec F S4x1152x3584 .f32) (codes : IVec S4x1152x448x2 8) (cb : Vec F S2x256x8 .bf16) (s : Vec F S4x1152 .f32) : Vec F S4608x3584 .bf16 :=
  shapeCast S4608x3584 (rT w codes cb s) shapeCasts_S4x1152x3584_S4608x3584

set_option maxRecDepth 8000 in
set_option maxHeartbeats 4000000 in
/-- The reference runs, its two results the terms above and its arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28) = outP (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_v29) = outR (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  hlo_run
  all_goals
    simp only [outP, outR, pT, rT, takeT, insideT, wrapT, ixT, pairT, StableHlo.TRef.ofBuf_toBuf]
    simp only [StableHlo.TRef.ofBuf, StableHlo.TRef.toBuf, cast_eq]
    clean_types
    rfl

end Cert.ReferenceIdeal.Hand
end
-- ==== Proof.Blk.lean ====
module

public import proofs.«01_k».proof.Proof.Body
public import Idealize.ShloMosaic.Lib.Claim
public import Idealize.ShloMosaic.Lib.Pipeline.ValueKit

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.Sem

variable {F : FTy → Type} [FloatOps F]
variable (m : (ℓ : Loc nD τ sig) → Buf (Elt F) ℓ)

/-- The tile a point works on. -/
abbrev tl (t : Fin grid0.N) : ℕ := min (t.val / 4) 35
/-- The column block a point works on. -/
abbrev st (t : Fin grid0.N) : ℕ := if t.val / 4 < 36 then t.val % 4 else 3

/-- The block of weights at a point. -/
theorem ix0_eq : ∀ t : Fin cfg0.N, win0_0.index t = ![tl t, st t] := by decide +kernel
/-- The block of codes at a point. -/
theorem ix1_eq : ∀ t : Fin cfg0.N, win0_1.index t = ![tl t / 9, 0, 0, tl t % 9] := by decide +kernel
/-- The block of codebooks at a point. -/
theorem ix2_eq : ∀ t : Fin cfg0.N, win0_2.index t = ![0, 0, 0] := by decide +kernel
/-- The block of scales at a point. -/
theorem ix3_eq : ∀ t : Fin cfg0.N, win0_3.index t = ![0, tl t % 9] := by decide +kernel
/-- The block of activations at a point. -/
theorem ix4_eq : ∀ t : Fin cfg0.N, win0_4.index t = ![0, if t.val / 4 = 0 then t.val % 4 else 3] := by decide +kernel
/-- The block of products at a point. -/
theorem ix5_eq : ∀ t : Fin cfg0.N, win0_5.index t = ![t.val / 4 - 1, if t.val / 4 = 0 then 0 else t.val % 4] := by decide +kernel
/-- The block of the residual at a point. -/
theorem ix6_eq : ∀ t : Fin cfg0.N, win0_6.index t = ![tl t, st t] := by decide +kernel

/-- The bound of a point's tile. -/
theorem tl_lt (t : Fin grid0.N) : tl t < 36 := lt_of_le_of_lt (Nat.min_le_right _ _) (by omega)
/-- The bound of a point's column block. -/
theorem st_lt (t : Fin grid0.N) : st t < 4 := by unfold st; split <;> omega

/-- The weights laid out as rows, read at an index. -/
theorem v0_apply (c : Dev nD) (R : Fin 4608) (C : Fin 3584) :
    V m c main_v0 (ix2 R C) = m ((c.tc : Thread nD τ).loc main_arg0) (ix3 ⟨R.val / 1152, by omega⟩ ⟨R.val % 1152, by omega⟩ C) := by
  entry_read
  pointwise

/-- The activations laid out as rows, read at an index. -/
theorem v4_apply (c : Dev nD) (n : Fin 512) (C : Fin 3584) :
    V m c main_v4 (ix2 n C) = m ((c.tc : Thread nD τ).loc main_arg4) (ix3 C ⟨n.val / 8, by omega⟩ ⟨n.val % 8, by omega⟩) := by
  entry_read
  pointwise

/-- The weights a point reads. -/
theorem B2_apply (c : Dev nD) (t : Fin grid0.N) (o : Fin 128) (d : Fin 896) (R : Fin 4608) (C : Fin 3584) (hR : R.val = 128 * tl t + o.val) (hC : C.val = 896 * st t + d.val) :
    B2 m c t (ix2 o d) = m ((c.tc : Thread nD τ).loc main_arg0) (ix3 ⟨R.val / 1152, by omega⟩ ⟨R.val % 1152, by omega⟩ C) := by
  have hi := ix0_eq t
  have e0 : ((((View.whole main_v0).slice (win0_0.rect t)).emb (ix2 o d) 0)) = R := Fin.ext (by blk_simp [hi]; omega)
  have e1 : ((((View.whole main_v0).slice (win0_0.rect t)).emb (ix2 o d) 1)) = C := Fin.ext (by blk_simp [hi]; omega)
  show iblk m c 0 t (ix2 o d) = _
  blk_simp [iblk]
  refine (congrArg (V m c main_v0) ((eq_ix2 _).trans (congrArg₂ ix2 e0 e1))).trans ?_
  exact v0_apply m c R C

/-- The codes a point reads. -/
theorem B3_apply (c : Dev nD) (t : Fin grid0.N) (k : Fin 2) (g : Fin 448) (l : Fin 128) (b : Fin 4) (r : Fin 1152) (hb : b.val = tl t / 9) (hr : r.val = 128 * (tl t % 9) + l.val) :
    B3 m c t (ix4 0 k g l) = m ((c.tc : Thread nD τ).loc main_arg1) (ix4 b r g k) := by
  have hi := ix1_eq t
  have e0 : ((((View.whole main_v1).slice (win0_1.rect t)).emb (ix4 0 k g l) 0)) = b := Fin.ext (by blk_simp [hi]; omega)
  have e1 : ((((View.whole main_v1).slice (win0_1.rect t)).emb (ix4 0 k g l) 1)) = k := Fin.ext (by blk_simp [hi])
  have e2 : ((((View.whole main_v1).slice (win0_1.rect t)).emb (ix4 0 k g l) 2)) = g := Fin.ext (by blk_simp [hi])
  have e3 : ((((View.whole main_v1).slice (win0_1.rect t)).emb (ix4 0 k g l) 3)) = r := Fin.ext (by blk_simp [hi]; omega)
  show iblk m c 1 t (ix4 0 k g l) = _
  blk_simp [iblk]
  entry_read
  pointwise
  rw [e0, e1, e2, e3]

/-- The codebooks a point reads. -/
theorem B4_apply (c : Dev nD) (t : Fin grid0.N) (k : Fin 2) (e : Fin 8) (n : Fin 256) :
    B4 m c t (ix3 k e n) = m ((c.tc : Thread nD τ).loc main_arg2) (ix3 k n e) := by
  have hi := ix2_eq t
  have e0 : ((((View.whole main_v2).slice (win0_2.rect t)).emb (ix3 k e n) 0)) = k := Fin.ext (by blk_simp [hi])
  have e1 : ((((View.whole main_v2).slice (win0_2.rect t)).emb (ix3 k e n) 1)) = e := Fin.ext (by blk_simp [hi])
  have e2 : ((((View.whole main_v2).slice (win0_2.rect t)).emb (ix3 k e n) 2)) = n := Fin.ext (by blk_simp [hi])
  show iblk m c 2 t (ix3 k e n) = _
  blk_simp [iblk]
  entry_read
  pointwise
  rw [e0, e1, e2]

/-- The scales a point reads. -/
theorem B5_apply (c : Dev nD) (t : Fin grid0.N) (b : Fin 4) (l : Fin 128) (r : Fin 1152) (hr : r.val = 128 * (tl t % 9) + l.val) :
    B5 m c t (ix2 b l) = m ((c.tc : Thread nD τ).loc main_arg3) (ix2 b r) := by
  have hi := ix3_eq t
  have e0 : ((((View.whole main_arg3).slice (win0_3.rect t)).emb (ix2 b l) 0)) = b := Fin.ext (by blk_simp [hi])
  have e1 : ((((View.whole main_arg3).slice (win0_3.rect t)).emb (ix2 b l) 1)) = r := Fin.ext (by blk_simp [hi]; omega)
  show iblk m c 3 t (ix2 b l) = _
  blk_simp [iblk]
  entry_read
  refine congrArg (m ((c.tc : Thread nD τ).loc main_arg3)) ?_
  refine (eq_ix2 _).trans ?_
  rw [e0, e1]

/-- The chunk a point reads. -/
theorem B6_apply (c : Dev nD) (t : Fin grid0.N) (n : Fin 512) (d : Fin 896) (C : Fin 3584) (hC : C.val = 896 * (if t.val / 4 = 0 then t.val % 4 else 3) + d.val) :
    B6 m c t (ix2 n d) = m ((c.tc : Thread nD τ).loc main_arg4) (ix3 C ⟨n.val / 8, by omega⟩ ⟨n.val % 8, by omega⟩) := by
  have hi := ix4_eq t
  have e0 : ((((View.whole main_v4).slice (win0_4.rect t)).emb (ix2 n d) 0)) = n := Fin.ext (by blk_simp [hi])
  have e1 : ((((View.whole main_v4).slice (win0_4.rect t)).emb (ix2 n d) 1)) = C := Fin.ext (by blk_simp [hi]; omega)
  show iblk m c 4 t (ix2 n d) = _
  blk_simp [iblk]
  refine (congrArg (V m c main_v4) ((eq_ix2 _).trans (congrArg₂ ix2 e0 e1))).trans ?_
  exact v4_apply m c n C

end Cert.KernelIdeal.Hand
end
-- ==== Proof.RefVal.lean ====
module

public import proofs.«01_k».proof.Proof.RefRun
public import Idealize.ShloMosaic.Lib.Tactic
public import Idealize.ShloMosaic.Lib.Tactic.WordOmega

@[expose] public section

noncomputable section

open Idealize.ShloMosaic Idealize.ShloMosaic.TcCoe Idealize.SL.Sem Idealize.ShloMosaic.StableHlo

namespace Cert.ReferenceIdeal.Hand

open Cert.ReferenceIdeal Cert.ReferenceIdeal.Gen

variable {F : FTy → Type} [FloatOps F]

/-- A row of the pair table. -/
theorem pairT_apply (cb : Vec F S2x256x8 .bf16) (n : Fin 65536) (e : Fin 8) :
    pairT cb (ix2 n e) = FloatOps.addf (FloatOps.extf .f32 bitsLt_bf16_f32 (cb (ix3 0 ⟨n.val / 256, by omega⟩ e)))
      (FloatOps.extf .f32 bitsLt_bf16_f32 (cb (ix3 1 ⟨n.val % 256, by omega⟩ e))) := by
  pointwise [pairT]

/-- The pair index. -/
theorem ixT_apply (codes : IVec S4x1152x448x2 8) (b : Fin 4) (o : Fin 1152) (g : Fin 448) :
    ixT codes (ix3 b o g) = (codes (ix4 b o g 0)).setWidth 32 * 256#32 + (codes (ix4 b o g 1)).setWidth 32 := by
  pointwise [ixT]
  rfl

/-- A nonnegative index passes the wrap unchanged. -/
theorem wrapT_apply (ix : IVec S4x1152x448 32) (b : Fin 4) (o : Fin 1152) (g : Fin 448) (z : Fin 1)
    (h : (ix (ix3 b o g)).toNat < 65536) : wrapT ix (ix4 b o g z) = ix (ix3 b o g) := by
  pointwise [wrapT]
  generalize ix (ix3 b o g) = w at h ⊢
  word_omega

/-- An index below 65536 lies within the table. -/
theorem insideT_apply (x5 : IVec S4x1152x448x1 32) (b : Fin 4) (o : Fin 1152) (g : Fin 448)
    (h : (x5 (ix4 b o g 0)).toNat < 65536) : insideT x5 (ix3 b o g) = 1#1 := by
  pointwise [insideT]
  generalize hw : x5 (ix4 b o g 0) = w at h
  rw [show (Finset.univ : Finset (Fin 1)) = {0} from rfl, Finset.fold_singleton, hw]
  have h1 : IntOp.cmpi CmpIPredicate.sge w 0#32 = 1#1 := by word_omega
  have h2 : IntOp.cmpi CmpIPredicate.sle w 65535#32 = 1#1 := by word_omega
  rw [h1, h2]
  rfl

/-- The lookup at an index within the table reads the table's row. -/
theorem gather_apply {α : Type} (tbl : S65536x8.Idx → α) (x5 : IVec S4x1152x448x1 32) (b : Fin 4) (o : Fin 1152) (g : Fin 448) (e : Fin 8)
    (h : (x5 (ix4 b o g 0)).toNat < 65536) :
    Host.gather gather_S65536x8_S4x1152x448x1_S4x1152x448x8_3_0_n_n_0_3_18 tbl x5 (ix4 b o g e) = tbl (ix2 ⟨(x5 (ix4 b o g 0)).toNat, h⟩ e) := by
  unfold Host.gather
  congr 1
  funext a
  refine Fin.ext ?_
  generalize hd : gather_S65536x8_S4x1152x448x1_S4x1152x448x8_3_0_n_n_0_3_18 = d
  show d.start (ix4 b o g e) x5 a + d.batchCoord (ix4 b o g e) a + d.offCoord (ix4 b o g e) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (by subst hd; exact List.not_mem_nil),
      GatherDims.offCoord_eq_zero _ _ _ (fun h => ((GatherDims.mem_sKept _ _).mp h).1 (by subst hd; exact List.mem_singleton.mpr rfl))]
    simp only [Nat.add_zero]
    subst hd
    unfold GatherDims.start
    rw [dif_pos (show (0 : Fin 2) ∈ gather_S65536x8_S4x1152x448x1_S4x1152x448x8_3_0_n_n_0_3_18.startIndexMap from List.mem_singleton.mpr rfl)]
    have hsi : gather_S65536x8_S4x1152x448x1_S4x1152x448x8_3_0_n_n_0_3_18.siIdx (ix4 b o g e) ⟨List.idxOf (0 : Fin 2) gather_S65536x8_S4x1152x448x1_S4x1152x448x8_3_0_n_n_0_3_18.startIndexMap,
        List.idxOf_lt_length_iff.2 (List.mem_singleton.mpr rfl)⟩ = ix4 b o g 0 := by
      funext b; refine Fin.ext ?_
      match b with
      | ⟨0, _⟩ => rfl
      | ⟨1, _⟩ => rfl
      | ⟨2, _⟩ => rfl
      | ⟨3, _⟩ => rfl
    rw [hsi]
    show min (x5 (ix4 b o g 0)).toInt.toNat 65535 = (x5 (ix4 b o g 0)).toNat
    generalize x5 (ix4 b o g 0) = w at h
    rw [BitVec.toInt_eq_toNat_of_lt (by omega)]
    omega
  · rw [GatherDims.batchCoord_eq_zero _ _ _ (by subst hd; exact List.not_mem_nil)]
    subst hd
    unfold GatherDims.start
    rw [dif_neg (show ¬ (1 : Fin 2) ∈ gather_S65536x8_S4x1152x448x1_S4x1152x448x8_3_0_n_n_0_3_18.startIndexMap from by decide)]
    simp only [Nat.zero_add, Nat.add_zero]
    rfl

/-- The table's row at an index below 65536. -/
theorem takeT_apply (tbl : Vec F S65536x8 .f32) (ix : IVec S4x1152x448 32) (b : Fin 4) (o : Fin 1152) (g : Fin 448) (e : Fin 8)
    (h : (ix (ix3 b o g)).toNat < 65536) : takeT tbl ix (ix4 b o g e) = tbl (ix2 ⟨(ix (ix3 b o g)).toNat, h⟩ e) := by
  have hw := wrapT_apply ix b o g 0 h
  pointwise [takeT]
  rw [insideT_apply (wrapT ix) b o g (by rw [hw]; exact h), gather_apply tbl (wrapT ix) b o g e (by rw [hw]; exact h)]
  simp only [hw]
  rfl

/-- The sum of both codebooks' entries that the codes of a group pick. -/
def pick (codes : IVec S4x1152x448x2 8) (cb : Vec F S2x256x8 .bf16) (b : Fin 4) (o : Fin 1152) (g : Fin 448) (e : Fin 8) : F .f32 :=
  FloatOps.addf (FloatOps.extf .f32 bitsLt_bf16_f32 (cb (ix3 0 (codes (ix4 b o g 0)).toFin e)))
    (FloatOps.extf .f32 bitsLt_bf16_f32 (cb (ix3 1 (codes (ix4 b o g 1)).toFin e)))

/-- The table lookup picks the sum of both codebooks' entries. -/
theorem take_pick (codes : IVec S4x1152x448x2 8) (cb : Vec F S2x256x8 .bf16) (b : Fin 4) (o : Fin 1152) (g : Fin 448) (e : Fin 8) :
    takeT (pairT cb) (ixT codes) (ix4 b o g e) = pick codes cb b o g e := by
  have hv : (ixT codes (ix3 b o g)).toNat = (codes (ix4 b o g 0)).toNat * 256 + (codes (ix4 b o g 1)).toNat := by
    rw [ixT_apply]
    have h0 := (codes (ix4 b o g 0)).isLt
    have h1 := (codes (ix4 b o g 1)).isLt
    simp only [BitVec.toNat_add, BitVec.toNat_mul, BitVec.toNat_setWidth, BitVec.toNat_ofNat]
    omega
  have h0 := (codes (ix4 b o g 0)).isLt
  have h1 := (codes (ix4 b o g 1)).isLt
  rw [takeT_apply _ _ b o g e (by omega), pairT_apply]
  have e0 : (⟨(ixT codes (ix3 b o g)).toNat / 256, by omega⟩ : Fin 256) = (codes (ix4 b o g 0)).toFin :=
    Fin.ext (by show _ = (codes (ix4 b o g 0)).toNat; simp only [hv]; omega)
  have e1 : (⟨(ixT codes (ix3 b o g)).toNat % 256, by omega⟩ : Fin 256) = (codes (ix4 b o g 1)).toFin :=
    Fin.ext (by show _ = (codes (ix4 b o g 1)).toNat; simp only [hv]; omega)
  unfold pick
  rw [← e0, ← e1]

/-- The residual at one place. -/
theorem rT_apply (w : Vec F S4x1152x3584 .f32) (codes : IVec S4x1152x448x2 8) (cb : Vec F S2x256x8 .bf16) (s : Vec F S4x1152 .f32)
    (b : Fin 4) (o : Fin 1152) (C : Fin 3584) :
    rT w codes cb s (ix3 b o C) = FloatOps.truncf .bf16 bitsLt_bf16_f32 (FloatOps.subf (w (ix3 b o C))
      (FloatOps.mulf (s (ix2 b o)) (pick codes cb b o ⟨C.val / 8, by omega⟩ ⟨C.val % 8, by omega⟩))) := by
  have h := take_pick codes cb b o ⟨C.val / 8, by omega⟩ ⟨C.val % 8, by omega⟩
  pointwise [rT]
  rw [h]

/-- The second result at one place. -/
theorem outR_apply (w : Vec F S4x1152x3584 .f32) (codes : IVec S4x1152x448x2 8) (cb : Vec F S2x256x8 .bf16) (s : Vec F S4x1152 .f32)
    (R : Fin 4608) (C : Fin 3584) :
    outR w codes cb s (ix2 R C) = rT w codes cb s (ix3 ⟨R.val / 1152, by omega⟩ ⟨R.val % 1152, by omega⟩ C) := by
  pointwise [outR]

/-- The first result at one place, on the extended reals. -/
theorem outP_apply (w : Vec Ideal S4x1152x3584 .f32) (codes : IVec S4x1152x448x2 8) (cb : Vec Ideal S2x256x8 .bf16) (s : Vec Ideal S4x1152 .f32)
    (h : Vec Ideal S3584x64x8 .f32) (R : Fin 4608) (n : Fin 512) :
    outP w codes cb s h (ix2 R n) = ∑ k : Fin 3584, (rT w codes cb s (ix3 ⟨R.val / 1152, by omega⟩ ⟨R.val % 1152, by omega⟩ k) : EReal)
      * h (ix3 k ⟨n.val / 8, by omega⟩ ⟨n.val % 8, by omega⟩) := by
  pointwise [outP, pT]

end Cert.ReferenceIdeal.Hand
end
-- ==== Proof.Dec.lean ====
module

public import proofs.«01_k».proof.Proof.Blk
public import proofs.«01_k».proof.Proof.RefVal

@[expose] public section

noncomputable section

namespace Cert.KernelIdeal.Hand

open Cert.KernelIdeal Cert.KernelIdeal.Gen
open Idealize.ShloMosaic
open Idealize.ShloMosaic.TcCoe Idealize.ShloMosaic.Tactic
open Idealize.ShloMosaic.Pointwise

variable {F : FTy → Type} [FloatOps F]

/-- The word that tells the half is 16 exactly for the codes of the lower half. -/
theorem half_iff : ∀ c : BitVec 8, IntOp.cmpi .eq (16#32 - (IntOp.shrsi .vector (c.setWidth 32) 3#32 &&& 16#32)) 16#32 = 1#1 ↔ c.toNat < 128 := by decide +kernel

/-- The lane within the half. -/
theorem lane_eq : ∀ c : BitVec 8, ((c.setWidth 32) &&& 127#32).toNat % 128 = c.toNat % 128 := by decide +kernel

/-- A prepared row that holds lanes. -/
theorem lane_row (x3 : Vec F S1x2x448x128 .i8) (m : Fin 2) (g : Fin 448) (o : Fin 128) :
    mkIdx x3 (ix3 ⟨2 * m.val, by omega⟩ g o) = codeW (F := F) x3 m g o &&& 127#32 := by
  unfold mkIdx
  refine (if_pos (show 2 * m.val % 2 = 0 by omega)).trans ?_
  have e : (⟨2 * m.val / 2, by omega⟩ : Fin 2) = m := Fin.ext (by show 2 * m.val / 2 = m.val; omega)
  exact congrArg (fun k => codeW (F := F) x3 k g o &&& 127#32) e

/-- A prepared row that tells the half. -/
theorem half_row (x3 : Vec F S1x2x448x128 .i8) (m : Fin 2) (g : Fin 448) (o : Fin 128) :
    mkIdx x3 (ix3 ⟨2 * m.val + 1, by omega⟩ g o) = 16#32 - (IntOp.shrsi .vector (codeW (F := F) x3 m g o) 3#32 &&& 16#32) := by
  unfold mkIdx
  refine (if_neg (show ¬ (2 * m.val + 1) % 2 = 0 by omega)).trans ?_
  have e : (⟨(2 * m.val + 1) / 2, by omega⟩ : Fin 2) = m := Fin.ext (by show (2 * m.val + 1) / 2 = m.val; omega)
  exact congrArg (fun k => 16#32 - (IntOp.shrsi .vector (codeW (F := F) x3 k g o) 3#32 &&& 16#32)) e

/-- The two-step lookup reads the codebook entry that the code names. -/
theorem dec_eq (x3 : Vec F S1x2x448x128 .i8) (x4 : Vec F S2x8x256 .bf16) (m : Fin 2) (g : Fin 448) (e : Fin 8) (o : Fin 128) (c : BitVec 8)
    (hc : x3 (ix4 0 m g o) = c) :
    dec (mkIdx x3) (mkTab x4) m g e o = FloatOps.extf .f32 bitsLt_bf16_f32 (x4 (ix3 m e c.toFin)) := by
  have hw : codeW (F := F) x3 m g o = c.setWidth 32 := congrArg (fun z : BitVec 8 => z.setWidth 32) hc
  have he := lane_row x3 m g o
  have ho := half_row x3 m g o
  rw [hw] at he ho
  have hl := lane_eq c
  rw [← he] at hl
  have hh := half_iff c
  have h256 := c.isLt
  unfold dec
  rw [ho]
  unfold Scalar.select mkTab
  by_cases h : c.toNat < 128
  · refine (if_pos (hh.mpr h)).trans ?_
    refine congrArg (fun k => FloatOps.extf .f32 bitsLt_bf16_f32 (x4 (ix3 m e k))) (Fin.ext ?_)
    show 128 * 0 + (show BitVec 32 from mkIdx x3 (ix3 ⟨2 * m.val, by omega⟩ g o)).toNat % 128 = c.toNat
    exact (congrArg (128 * 0 + ·) hl).trans (by show 128 * 0 + c.toNat % 128 = c.toNat; omega)
  · refine (if_neg (fun z => h (hh.mp z))).trans ?_
    refine congrArg (fun k => FloatOps.extf .f32 bitsLt_bf16_f32 (x4 (ix3 m e k))) (Fin.ext ?_)
    show 128 * 1 + (show BitVec 32 from mkIdx x3 (ix3 ⟨2 * m.val, by omega⟩ g o)).toNat % 128 = c.toNat
    exact (congrArg (128 * 1 + ·) hl).trans (by show 128 * 1 + c.toNat % 128 = c.toNat; omega)

variable (m : (ℓ : Loc nD τ sig) → Buf (Elt F) ℓ)

/-- The weights. -/
abbrev aW (c : Dev nD) : Vec F S4x1152x3584 .f32 := m ((c.tc : Thread nD τ).loc main_arg0)
/-- The codes. -/
abbrev aC (c : Dev nD) : IVec S4x1152x448x2 8 := m ((c.tc : Thread nD τ).loc main_arg1)
/-- The codebooks. -/
abbrev aB (c : Dev nD) : Vec F S2x256x8 .bf16 := m ((c.tc : Thread nD τ).loc main_arg2)
/-- The scales. -/
abbrev aS (c : Dev nD) : Vec F S4x1152 .f32 := m ((c.tc : Thread nD τ).loc main_arg3)
/-- The activations. -/
abbrev aH (c : Dev nD) : Vec F S3584x64x8 .f32 := m ((c.tc : Thread nD τ).loc main_arg4)

/-- The point that prepares a tile's index rows works on the tile of every point that uses them. -/
theorem tl_first (t : Fin grid0.N) : tl (pt' (4 * (t.val / 4))) = tl t := by
  have := lt148 t
  show min (min (4 * (t.val / 4)) 147 / 4) 35 = min (t.val / 4) 35
  omega

/-- The column block of a point, as a number. -/
theorem stepAt_val (t : Fin grid0.N) : (stepOf (grid0.coords t)).val = st t := by
  have h0 := co0 t
  have h1 := co1 t
  unfold stepOf st
  by_cases h : t.val / 4 < 36
  · rw [dif_pos (by omega), if_pos h]
    exact h1
  · rw [dif_neg (by omega), if_neg h]
    rfl

/-- The batch of a point, as a number. -/
theorem batchAt_val (t : Fin grid0.N) : (batchOf (grid0.coords t)).val = tl t / 9 := by
  have h0 := co0 t
  show min (grid0.coords t 0).val 35 / 9 = min (t.val / 4) 35 / 9
  rw [h0]

/-- The remainder block a point stores is the block of the plain remainder. -/
theorem RB_apply (c : Dev nD) (t : Fin grid0.N) (o : Fin 128) (d : Fin 896) (b : Fin 4) (r : Fin 1152) (C : Fin 3584)
    (hb : b.val = tl t / 9) (hr : r.val = 128 * (tl t % 9) + o.val) (hC : C.val = 896 * st t + d.val) :
    RB (B2 m c) (B3 m c) (B4 m c) (B5 m c) t (ix2 o d) = Cert.ReferenceIdeal.Hand.rT (aW m c) (aC m c) (aB m c) (aS m c) (ix3 b r C) := by
  have hT := tl_lt t
  have hf := tl_first t
  have hs := stepAt_val t
  have hB := batchAt_val t
  have h2 := B2_apply m c t o d ⟨128 * tl t + o.val, by omega⟩ C rfl hC
  have h5 := B5_apply m c t (batchOf (grid0.coords t)) o r hr
  have h3 := fun k g => B3_apply m c (pt' (4 * (t.val / 4))) k g o b r (by rw [hf]; exact hb) (by rw [hf]; exact hr)
  have h4 := fun k e n => B4_apply m c (pt' 0) k e n
  have eb : batchOf (grid0.coords t) = b := Fin.ext (by omega)
  have eb' : (⟨(128 * tl t + o.val) / 1152, by omega⟩ : Fin 4) = b := Fin.ext (by show (128 * tl t + o.val) / 1152 = b.val; omega)
  have er' : (⟨(128 * tl t + o.val) % 1152, by omega⟩ : Fin 1152) = r := Fin.ext (by show (128 * tl t + o.val) % 1152 = r.val; omega)
  have eg : (⟨112 * (stepOf (grid0.coords t)).val + d.val / 8, by omega⟩ : Fin 448) = ⟨C.val / 8, by omega⟩ :=
    Fin.ext (by show 112 * (stepOf (grid0.coords t)).val + d.val / 8 = C.val / 8; omega)
  have ee : (⟨d.val % 8, by omega⟩ : Fin 8) = ⟨C.val % 8, by omega⟩ := Fin.ext (by show d.val % 8 = C.val % 8; omega)
  rw [Cert.ReferenceIdeal.Hand.rT_apply]
  show FloatOps.truncf .bf16 bitsLt_bf16_f32 (FloatOps.subf (B2 m c t (ix2 o d)) (FloatOps.mulf (B5 m c t (ix2 (batchOf (grid0.coords t)) o))
    (FloatOps.addf
      (dec (mkIdx (B3 m c (pt' (4 * (t.val / 4))))) (mkTab (B4 m c (pt' 0))) 0 ⟨112 * (stepOf (grid0.coords t)).val + d.val / 8, by omega⟩ ⟨d.val % 8, by omega⟩ o)
      (dec (mkIdx (B3 m c (pt' (4 * (t.val / 4))))) (mkTab (B4 m c (pt' 0))) 1 ⟨112 * (stepOf (grid0.coords t)).val + d.val / 8, by omega⟩ ⟨d.val % 8, by omega⟩ o)))) = _
  rw [eg, ee, dec_eq _ _ 0 _ _ _ _ (h3 0 _), dec_eq _ _ 1 _ _ _ _ (h3 1 _), h4, h4, h2, h5, eb', er', eb]
  rfl

end Cert.KernelIdeal.Hand
end
-- ==== Proof.ArrP.lean ====
module

public import proofs.«01_k».proof.Proof.Dec
public import Idealize.ShloMosaic.Lib.IdealHost

@[expose] public section

noncomputable section

namespace Cert.KernelIdeal.Hand

open Cert.KernelIdeal Cert.KernelIdeal.Gen
open Idealize.ShloMosaic
open Idealize.ShloMosaic.TcCoe Idealize.ShloMosaic.Tactic
open Idealize.ShloMosaic.Pointwise

/-- Four stretches of 896 terms, added one after the other from zero, are the sum of all 3584 terms. -/
theorem sum_four (f : Fin 3584 → EReal) (s : Fin 4 → EReal) (h : ∀ n : Fin 4, s n = ∑ d : Fin 896, f ⟨896 * n.val + d.val, by omega⟩) :
    (((0 + s 0) + s 1) + s 2) + s 3 = ∑ k : Fin 3584, f k := by
  have e := Fin.sum_univ_univ_mul_add 4 896 (fun k => if hk : k < 3584 then f ⟨k, hk⟩ else 0)
  have e1 : ∑ l : Fin (4 * 896), (fun k => if hk : k < 3584 then f ⟨k, hk⟩ else 0) l.val = ∑ k : Fin 3584, f k :=
    Finset.sum_congr rfl fun k _ => dif_pos k.isLt
  have e2 : ∀ n : Fin 4, s n = ∑ d : Fin 896, (fun k => if hk : k < 3584 then f ⟨k, hk⟩ else 0) (n.val * 896 + d.val) := by
    intro n
    rw [h n]
    refine Finset.sum_congr rfl fun d _ => ?_
    have hlt : n.val * 896 + d.val < 3584 := by omega
    show f _ = if hk : n.val * 896 + d.val < 3584 then f ⟨n.val * 896 + d.val, hk⟩ else 0
    rw [dif_pos hlt]
    exact congrArg f (Fin.ext (by show 896 * n.val + d.val = n.val * 896 + d.val; omega))
  rw [← e1, ← e, zero_add, Fin.sum_univ_four, e2 0, e2 1, e2 2, e2 3]

/-- The product of one point, as a sum. -/
theorem dot_apply (r : Vec Ideal S128x896 .bf16) (h : Vec Ideal S896x512 .bf16) (o : Fin 128) (n : Fin 512) :
    dot r h (ix2 o n) = ∑ d : Fin 896, (r (ix2 o d) : EReal) * h (ix2 d n) := by
  pointwise [dot]

variable (m : (ℓ : Loc nD τ sig) → Buf (Elt Ideal) ℓ)

/-- One term of the plain product. -/
def term (c : Dev nD) (R : Fin 4608) (n : Fin 512) (k : Fin 3584) : EReal :=
  (Cert.ReferenceIdeal.Hand.rT (aW m c) (aC m c) (aB m c) (aS m c) (ix3 ⟨R.val / 1152, by omega⟩ ⟨R.val % 1152, by omega⟩ k) : EReal)
    * aH m c (ix3 k ⟨n.val / 8, by omega⟩ ⟨n.val % 8, by omega⟩)

/-- The product of a tile's point, in terms of the arguments. -/
theorem DD_apply (c : Dev nD) (i : ℕ) (hi : i < 36) (n : Fin 4) (o : Fin 128) (q : Fin 512) (R : Fin 4608) (hR : R.val = 128 * i + o.val) :
    DD (B2 m c) (B3 m c) (B4 m c) (B5 m c) (B6 m c) (pt' (4 * i + n.val)) (ix2 o q)
      = ∑ d : Fin 896, term m c R q ⟨896 * n.val + d.val, by omega⟩ := by
  have hv : (pt' (4 * i + n.val)).val = 4 * i + n.val := by show min (4 * i + n.val) 147 = _; omega
  have htl : tl (pt' (4 * i + n.val)) = i := by unfold tl; rw [hv]; omega
  have hst : st (pt' (4 * i + n.val)) = n.val := by unfold st; rw [hv]; split <;> omega
  have hs := (stepAt_val (pt' (4 * i + n.val))).trans hst
  unfold DD
  rw [dot_apply]
  refine Finset.sum_congr rfl fun d _ => ?_
  refine congrArg₂ (fun a b : EReal => a * b) ?_ ?_
  · exact RB_apply m c _ o d _ _ _ (by show R.val / 1152 = _; rw [htl]; omega) (by show R.val % 1152 = _; rw [htl]; omega) (by rw [hst])
  · rw [hs]
    refine Eq.trans (show HM (B6 m c) n.val (ix2 d q) = B6 m c (pt' n.val) (ix2 q d) from rfl) ?_
    have hv' : (pt' n.val).val = n.val := by show min n.val 147 = _; omega
    exact B6_apply m c (pt' n.val) q d _ (by show 896 * n.val + d.val = _; rw [hv', if_pos (by omega)]; omega)

/-- The finished running sum of a tile is the plain product. -/
theorem PS_apply (c : Dev nD) (i : ℕ) (hi : i < 36) (b : Fin 4) (o l : Fin 128) (R : Fin 4608) (hR : R.val = 128 * i + o.val) (n : Fin 512) (hn : n.val = 128 * b.val + l.val) :
    PS (B2 m c) (B3 m c) (B4 m c) (B5 m c) (B6 m c) i 4 b o l = ∑ k : Fin 3584, term m c R n k := by
  have en : (⟨128 * b.val + l.val, by omega⟩ : Fin 512) = n := Fin.ext hn.symm
  have hd := fun j : Fin 4 => DD_apply m c i hi j o n R hR
  rw [← sum_four (term m c R n) (fun j => DD (B2 m c) (B3 m c) (B4 m c) (B5 m c) (B6 m c) (pt' (4 * i + j.val)) (ix2 o n)) hd, ← en]
  refine Eq.trans (show _ = ((((zro : Ideal .f32) : EReal) + _) + _ + _) + _ from rfl) ?_
  rw [show ((zro : Ideal .f32) : EReal) = 0 from Ideal.ofBits_zero_f32]
  rfl

/-- The plain product, as a whole array. -/
abbrev GP (c : Dev nD) : Vec Ideal S4608x512 .f32 := Cert.ReferenceIdeal.Hand.outP (aW m c) (aC m c) (aB m c) (aS m c) (aH m c)

/-- A point that writes its block of products back comes after the first tile. -/
theorem flush_late : ∀ t : Fin cfg0.N, (cfg0.win 5).flush t = true → 4 ≤ t.val := by decide +kernel

/-- The first result of the kernel is the plain product. -/
theorem arr_P (c : Dev nD) : (dats m 0 c).arrAt 5 (cfgs 0).N = GP m c := by
  refine (dats m 0 c).arrAt_eq_of_covers 5 _ (by decide +kernel) fun t hf y => ?_
  obtain ⟨o, l, rfl⟩ : ∃ (o l : Fin 128), y = ix2 o l := ⟨y 0, y 1, eq_ix2 y⟩
  have hi := ix5_eq t
  have h4 := flush_late t hf
  have h148 := lt148 t
  obtain ⟨R, hR⟩ : ∃ R : Fin 4608, R.val = 128 * (t.val / 4 - 1) + o.val := ⟨⟨128 * (t.val / 4 - 1) + o.val, by omega⟩, rfl⟩
  obtain ⟨n, hn⟩ : ∃ n : Fin 512, n.val = 128 * (t.val % 4) + l.val := ⟨⟨128 * (t.val % 4) + l.val, by omega⟩, rfl⟩
  have hz : ¬ t.val / 4 = 0 := by omega
  rw [if_neg hz] at hi
  have e0 : ((((View.whole main_v5_0).slice (win0_5.rect t)).emb (ix2 o l) 0)) = R := Fin.ext (by blk_simp [hi]; omega)
  have e1 : ((((View.whole main_v5_0).slice (win0_5.rect t)).emb (ix2 o l) 1)) = n := Fin.ext (by blk_simp [hi]; omega)
  blk_simp
  show OB (B2 m c) (B3 m c) (B4 m c) (B5 m c) (B6 m c) t (ix2 o l) = _
  refine Eq.trans ?_ (congrArg (GP m c) ((eq_ix2 _).trans (congrArg₂ ix2 e0 e1))).symm
  refine Eq.trans ?_ (Cert.ReferenceIdeal.Hand.outP_apply (aW m c) (aC m c) (aB m c) (aS m c) (aH m c) R n).symm
  unfold OB
  rw [if_neg hz]
  have h1 := co1 t
  exact PS_apply m c (t.val / 4 - 1) (by omega) (colOf (grid0.coords t)) o l R hR n (by show n.val = 128 * (grid0.coords t 1).val + l.val; rw [h1]; exact hn)

end Cert.KernelIdeal.Hand
end
-- ==== Proof.ArrR.lean ====
module

public import proofs.«01_k».proof.Proof.Dec

@[expose] public section

noncomputable section

namespace Cert.KernelIdeal.Hand

open Cert.KernelIdeal Cert.KernelIdeal.Gen
open Idealize.ShloMosaic
open Idealize.ShloMosaic.TcCoe Idealize.ShloMosaic.Tactic
open Idealize.ShloMosaic.Pointwise

variable {F : FTy → Type} [FloatOps F]
variable (m : (ℓ : Loc nD τ sig) → Buf (Elt F) ℓ)

/-- The plain remainder, as a whole array. -/
abbrev GR (c : Dev nD) : Vec F S4608x3584 .bf16 := Cert.ReferenceIdeal.Hand.outR (aW m c) (aC m c) (aB m c) (aS m c)

/-- The second result of the kernel is the plain remainder. -/
theorem arr_R (c : Dev nD) : (dats m 0 c).arrAt 6 (cfgs 0).N = GR m c := by
  refine (dats m 0 c).arrAt_eq_of_covers 6 _ (by decide +kernel) fun t hf y => ?_
  obtain ⟨o, d, rfl⟩ : ∃ (o : Fin 128) (d : Fin 896), y = ix2 o d := ⟨y 0, y 1, eq_ix2 y⟩
  have hi := ix6_eq t
  have hT := tl_lt t
  have hS := st_lt t
  obtain ⟨R, hR⟩ : ∃ R : Fin 4608, R.val = 128 * tl t + o.val := ⟨⟨128 * tl t + o.val, by omega⟩, rfl⟩
  obtain ⟨C, hC⟩ : ∃ C : Fin 3584, C.val = 896 * st t + d.val := ⟨⟨896 * st t + d.val, by omega⟩, rfl⟩
  have e0 : ((((View.whole main_v5_1).slice (win0_6.rect t)).emb (ix2 o d) 0)) = R := Fin.ext (by blk_simp [hi]; omega)
  have e1 : ((((View.whole main_v5_1).slice (win0_6.rect t)).emb (ix2 o d) 1)) = C := Fin.ext (by blk_simp [hi]; omega)
  blk_simp
  show RB (B2 m c) (B3 m c) (B4 m c) (B5 m c) t (ix2 o d) = _
  refine Eq.trans ?_ (congrArg (GR m c) ((eq_ix2 _).trans (congrArg₂ ix2 e0 e1))).symm
  refine Eq.trans ?_ (Cert.ReferenceIdeal.Hand.outR_apply (aW m c) (aC m c) (aB m c) (aS m c) R C).symm
  exact RB_apply m c t o d _ _ _ (by show R.val / 1152 = _; omega) (by show R.val % 1152 = _; omega) hC

end Cert.KernelIdeal.Hand
end
-- ==== Proof.lean ====
/- The proof of the certificate's claims: the frames of the kernel, of its idealization and of the reference, and the
equality of the idealized kernel's two results with the reference's. -/
module

public import proofs.«01_k».proof.Defs
public import proofs.«01_k».proof.Proof.Body
public import proofs.«01_k».proof.Proof.KBody
public import proofs.«01_k».proof.Proof.RefRun
public import proofs.«01_k».proof.Proof.ArrP
public import proofs.«01_k».proof.Proof.ArrR
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- The kernel runs from any memory, leaves its arguments and ends with every counter at zero. -/
theorem frame_p : Cert.quiescent_Kernel := fun m ρ _ =>
  (θ_run Cert.Kernel.defs _ _).mono (fun _ h => ⟨fun c => Cert.Kernel.Hand.args_of m h.1 c, h.2⟩)
    (Cert.Kernel.Hand.run_main (F := Bits) m ρ)

/-- The idealized kernel runs from any memory, leaves its arguments and ends with every counter at zero. -/
theorem frame_pi : Cert.quiescent_KernelIdeal := fun m ρ _ =>
  (θ_run Cert.KernelIdeal.defs _ _).mono (fun _ h => ⟨fun c => Cert.KernelIdeal.Hand.args_of m h.1 c, h.2⟩)
    (Cert.KernelIdeal.Hand.run_main (F := Ideal) m ρ)

/-- The reference runs from any memory, leaves its arguments and has no counter. -/
theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Hand.run (F := Ideal) m ρ)

/-- On the extended reals, from memories that agree on the arguments, the idealized kernel and the reference end with
equal products and equal remainders, and both leave their arguments. -/
theorem algebraic : Cert.algebraic_KernelIdeal_ReferenceIdeal := fun m ρ m' ρ' _ hagree =>
  ⟨fun c => Cert.KernelIdeal.Hand.GP m c, fun c => Cert.KernelIdeal.Hand.GR m c,
   (θ_run Cert.KernelIdeal.defs _ _).mono
     (fun _ h c => ⟨((h.1 c).1 5).trans (Cert.KernelIdeal.Hand.arr_P m c), ((h.1 c).1 6).trans (Cert.KernelIdeal.Hand.arr_R m c),
       Cert.KernelIdeal.Hand.args_of m h.1 c⟩)
     (Cert.KernelIdeal.Hand.run_main (F := Ideal) m ρ),
   (θ_run Cert.ReferenceIdeal.defs _ _).mono
     (fun _ h c => ⟨(h c).1.trans (by
         obtain ⟨e0, e1, e2, e3, e4⟩ := hagree c
         rw [e0, e1, e2, e3, e4]), (h c).2.1.trans (by
         obtain ⟨e0, e1, e2, e3, e4⟩ := hagree c
         rw [e0, e1, e2, e3]), (h c).2.2⟩)
     (Cert.ReferenceIdeal.Hand.run (F := Ideal) m' ρ')⟩

/-- The certificate. -/
theorem claim : Cert.Claim := ⟨Cert.Kernel.Gen.facts, Cert.KernelIdeal.Gen.facts, Cert.ReferenceIdeal.Gen.facts,
  frame_p, frame_pi, frame_ri, trivial, algebraic⟩

end Cert.Proof

end
